-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v84)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v496) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S4x96x224x224 : Shape := ⟨4, ![4, 96, 224, 224]⟩
abbrev S4x1x224x224 : Shape := ⟨4, ![4, 1, 224, 224]⟩
abbrev S1x96x4x2 : Shape := ⟨4, ![1, 96, 4, 2]⟩
abbrev S96x96x3x3 : Shape := ⟨4, ![96, 96, 3, 3]⟩
abbrev S96x384x1x1 : Shape := ⟨4, ![96, 384, 1, 1]⟩
abbrev S96 : Shape := ⟨1, ![96]⟩
abbrev S_ : Shape := ⟨0, ![]⟩

class Facts : Prop where
  bcast_S_S4x96x224x224 : S_.BroadcastsInDim S4x96x224x224 (![] : Fin 0 → Fin S4x96x224x224.rank)
  bcast_S_S4x1x224x224 : S_.BroadcastsInDim S4x1x224x224 (![] : Fin 0 → Fin S4x1x224x224.rank)
  bcast_S_S1x96x4x2 : S_.BroadcastsInDim S1x96x4x2 (![] : Fin 0 → Fin S1x96x4x2.rank)
  bcast_S_S96x96x3x3 : S_.BroadcastsInDim S96x96x3x3 (![] : Fin 0 → Fin S96x96x3x3.rank)

variable [Facts]

def fn_part1 {F : FTy → Type} [FloatOps F] (main_arg6 : FVec F S96x96x3x3 .f32) (main_arg9 : FVec F S1x96x4x2 .f32) (main_v2 : IVec S4x96x224x224 1) (main_v5 : IVec S4x1x224x224 1) (main_v8 : IVec S1x96x4x2 1) (main_v11 : IVec S96x96x3x3 1) (main_v14 : IVec S96x96x3x3 1) (main_v17 : IVec S96x96x3x3 1) : IVec S4x96x224x224 1 × IVec S4x1x224x224 1 × IVec S1x96x4x2 1 × IVec S96x96x3x3 1 × IVec S96x96x3x3 1 × IVec S96x96x3x3 1 × IVec S96x96x3x3 1 × IVec S1x96x4x2 1 × IVec S1x96x4x2 1 :=
  let main_v18 : FVec F S96x96x3x3 .f32 := Host.absf main_arg6
  let main_cst_5 : FVec F S_ .f32 := constant S_ .f32 0x7F800000#32
  let main_v19 : FVec F S96x96x3x3 .f32 := broadcastInDim S96x96x3x3 ![] bcast_S_S96x96x3x3 main_cst_5
  let main_v20 : IVec S96x96x3x3 1 := cmpf .olt main_v18 main_v19
  let main_cst_6 : FVec F S_ .f32 := constant S_ .f32 0x00000000#32
  let main_v21 : FVec F S1x96x4x2 .f32 := broadcastInDim S1x96x4x2 ![] bcast_S_S1x96x4x2 main_cst_6
  let main_v22 : IVec S1x96x4x2 1 := cmpf .ogt main_arg9 main_v21
  let main_cst_7 : FVec F S_ .f32 := constant S_ .f32 0x3F800000#32
  let main_v23 : FVec F S1x96x4x2 .f32 := broadcastInDim S1x96x4x2 ![] bcast_S_S1x96x4x2 main_cst_7
  let main_v24 : IVec S1x96x4x2 1 := cmpf .olt main_arg9 main_v23
  (main_v2, main_v5, main_v8, main_v11, main_v14, main_v17, main_v20, main_v22, main_v24)

def fn {F : FTy → Type} [FloatOps F] (main_arg0 : FVec F S4x96x224x224 .f32) (main_arg1 : FVec F S4x1x224x224 .f32) (main_arg2 : FVec F S1x96x4x2 .f32) (main_arg3 : FVec F S96x96x3x3 .f32) (main_arg4 : FVec F S96x96x3x3 .f32) (main_arg5 : FVec F S96x96x3x3 .f32) (main_arg6 : FVec F S96x96x3x3 .f32) (main_arg7 : FVec F S96x384x1x1 .f32) (main_arg8 : FVec F S96 .f32) (main_arg9 : FVec F S1x96x4x2 .f32) : IVec S4x96x224x224 1 × IVec S4x1x224x224 1 × IVec S1x96x4x2 1 × IVec S96x96x3x3 1 × IVec S96x96x3x3 1 × IVec S96x96x3x3 1 × IVec S96x96x3x3 1 × IVec S1x96x4x2 1 × IVec S1x96x4x2 1 :=
  let main_v0 : FVec F S4x96x224x224 .f32 := Host.absf main_arg0
  let main_cst : FVec F S_ .f32 := constant S_ .f32 0x7F800000#32
  let main_v1 : FVec F S4x96x224x224 .f32 := broadcastInDim S4x96x224x224 ![] bcast_S_S4x96x224x224 main_cst
  let main_v2 : IVec S4x96x224x224 1 := cmpf .olt main_v0 main_v1
  let main_v3 : FVec F S4x1x224x224 .f32 := Host.absf main_arg1
  let main_cst_0 : FVec F S_ .f32 := constant S_ .f32 0x7F800000#32
  let main_v4 : FVec F S4x1x224x224 .f32 := broadcastInDim S4x1x224x224 ![] bcast_S_S4x1x224x224 main_cst_0
  let main_v5 : IVec S4x1x224x224 1 := cmpf .olt main_v3 main_v4
  let main_v6 : FVec F S1x96x4x2 .f32 := Host.absf main_arg2
  let main_cst_1 : FVec F S_ .f32 := constant S_ .f32 0x7F800000#32
  let main_v7 : FVec F S1x96x4x2 .f32 := broadcastInDim S1x96x4x2 ![] bcast_S_S1x96x4x2 main_cst_1
  let main_v8 : IVec S1x96x4x2 1 := cmpf .olt main_v6 main_v7
  let main_v9 : FVec F S96x96x3x3 .f32 := Host.absf main_arg3
  let main_cst_2 : FVec F S_ .f32 := constant S_ .f32 0x7F800000#32
  let main_v10 : FVec F S96x96x3x3 .f32 := broadcastInDim S96x96x3x3 ![] bcast_S_S96x96x3x3 main_cst_2
  let main_v11 : IVec S96x96x3x3 1 := cmpf .olt main_v9 main_v10
  let main_v12 : FVec F S96x96x3x3 .f32 := Host.absf main_arg4
  let main_cst_3 : FVec F S_ .f32 := constant S_ .f32 0x7F800000#32
  let main_v13 : FVec F S96x96x3x3 .f32 := broadcastInDim S96x96x3x3 ![] bcast_S_S96x96x3x3 main_cst_3
  let main_v14 : IVec S96x96x3x3 1 := cmpf .olt main_v12 main_v13
  let main_v15 : FVec F S96x96x3x3 .f32 := Host.absf main_arg5
  let main_cst_4 : FVec F S_ .f32 := constant S_ .f32 0x7F800000#32
  let main_v16 : FVec F S96x96x3x3 .f32 := broadcastInDim S96x96x3x3 ![] bcast_S_S96x96x3x3 main_cst_4
  let main_v17 : IVec S96x96x3x3 1 := cmpf .olt main_v15 main_v16
  fn_part1 (F := F) main_arg6 main_arg9 main_v2 main_v5 main_v8 main_v11 main_v14 main_v17
-- ==== Kernel.lean ====
abbrev S4x96x224x224 : Shape := ⟨4, ![4, 96, 224, 224]⟩
abbrev S4x1x224x224 : Shape := ⟨4, ![4, 1, 224, 224]⟩
abbrev S1x96x4x2 : Shape := ⟨4, ![1, 96, 4, 2]⟩
abbrev S96x96x3x3 : Shape := ⟨4, ![96, 96, 3, 3]⟩
abbrev S96x384x1x1 : Shape := ⟨4, ![96, 384, 1, 1]⟩
abbrev S96 : Shape := ⟨1, ![96]⟩
abbrev S384x2 : Shape := ⟨2, ![384, 2]⟩
abbrev S384 : Shape := ⟨1, ![384]⟩
abbrev S384x1 : Shape := ⟨2, ![384, 1]⟩
abbrev S96x4x2 : Shape := ⟨3, ![96, 4, 2]⟩
abbrev S96x4x1 : Shape := ⟨3, ![96, 4, 1]⟩
abbrev S96x4 : Shape := ⟨2, ![96, 4]⟩
abbrev S4x224x224x96 : Shape := ⟨4, ![4, 224, 224, 96]⟩
abbrev S4x224x224x1 : Shape := ⟨4, ![4, 224, 224, 1]⟩
abbrev S3x3x96x96 : Shape := ⟨4, ![3, 3, 96, 96]⟩
abbrev S96x384 : Shape := ⟨2, ![96, 384]⟩
abbrev S384x96 : Shape := ⟨2, ![384, 96]⟩
abbrev S_ : Shape := ⟨0, ![]⟩
abbrev S6x96 : Shape := ⟨2, ![6, 96]⟩
abbrev S5x96 : Shape := ⟨2, ![5, 96]⟩
abbrev S1x96 : Shape := ⟨2, ![1, 96]⟩
abbrev S96x1 : Shape := ⟨2, ![96, 1]⟩
abbrev S8x96 : Shape := ⟨2, ![8, 96]⟩
abbrev S96x8 : Shape := ⟨2, ![96, 8]⟩
abbrev S1x32x224x96 : Shape := ⟨4, ![1, 32, 224, 96]⟩
abbrev S1x32x224x1 : Shape := ⟨4, ![1, 32, 224, 1]⟩
abbrev S226x226x96 : Shape := ⟨3, ![226, 226, 96]⟩
abbrev S226x96 : Shape := ⟨2, ![226, 96]⟩
abbrev S1x226x96 : Shape := ⟨3, ![1, 226, 96]⟩
abbrev S32x1x96 : Shape := ⟨3, ![32, 1, 96]⟩
abbrev S32x2x96 : Shape := ⟨3, ![32, 2, 96]⟩
abbrev S32x224x96 : Shape := ⟨3, ![32, 224, 96]⟩
abbrev S32x226x96 : Shape := ⟨3, ![32, 226, 96]⟩
abbrev S7168x96 : Shape := ⟨2, ![7168, 96]⟩
abbrev S34x226x96 : Shape := ⟨3, ![34, 226, 96]⟩
abbrev S34x224x96 : Shape := ⟨3, ![34, 224, 96]⟩
abbrev S1x1x96x96 : Shape := ⟨4, ![1, 1, 96, 96]⟩
abbrev S96x96 : Shape := ⟨2, ![96, 96]⟩
abbrev S32x224x1 : Shape := ⟨3, ![32, 224, 1]⟩
abbrev S1x1x96 : Shape := ⟨3, ![1, 1, 96]⟩
abbrev S96x7 : Shape := ⟨2, ![96, 7]⟩
abbrev S1x1x96x1 : Shape := ⟨4, ![1, 1, 96, 1]⟩
abbrev S7x96 : Shape := ⟨2, ![7, 96]⟩

abbrev nBuf : Space → Nat
  | .hbm => 103
  | .vmem => 55
  | .smem => 0
  | _ => 0

abbrev bufTy : (tb : Table) → Fin (tcTables nBuf tb) → BufTy
  | .hbm, ⟨0, _⟩ => ⟨S4x96x224x224, .f32⟩
  | .hbm, ⟨1, _⟩ => ⟨S4x1x224x224, .f32⟩
  | .hbm, ⟨2, _⟩ => ⟨S1x96x4x2, .f32⟩
  | .hbm, ⟨3, _⟩ => ⟨S96x96x3x3, .f32⟩
  | .hbm, ⟨4, _⟩ => ⟨S96x96x3x3, .f32⟩
  | .hbm, ⟨5, _⟩ => ⟨S96x96x3x3, .f32⟩
  | .hbm, ⟨6, _⟩ => ⟨S96x96x3x3, .f32⟩
  | .hbm, ⟨7, _⟩ => ⟨S96x384x1x1, .f32⟩
  | .hbm, ⟨8, _⟩ => ⟨S96, .f32⟩
  | .hbm, ⟨9, _⟩ => ⟨S1x96x4x2, .f32⟩
  | .hbm, ⟨10, _⟩ => ⟨S384x2, .f32⟩
  | .hbm, ⟨11, _⟩ => ⟨S384x2, .f32⟩
  | .hbm, ⟨12, _⟩ => ⟨S384x2, .f32⟩
  | .hbm, ⟨13, _⟩ => ⟨S1x96x4x2, .f32⟩
  | .hbm, ⟨14, _⟩ => ⟨S96x4x2, .f32⟩
  | .hbm, ⟨15, _⟩ => ⟨S96x4x1, .f32⟩
  | .hbm, ⟨16, _⟩ => ⟨S96x4, .f32⟩
  | .hbm, ⟨17, _⟩ => ⟨S96x4x2, .f32⟩
  | .hbm, ⟨18, _⟩ => ⟨S96x4x1, .f32⟩
  | .hbm, ⟨19, _⟩ => ⟨S96x4, .f32⟩
  | .hbm, ⟨20, _⟩ => ⟨S4x224x224x96, .f32⟩
  | .hbm, ⟨21, _⟩ => ⟨S4x224x224x96, .bf16⟩
  | .hbm, ⟨22, _⟩ => ⟨S4x224x224x1, .f32⟩
  | .hbm, ⟨23, _⟩ => ⟨S3x3x96x96, .f32⟩
  | .hbm, ⟨24, _⟩ => ⟨S3x3x96x96, .f32⟩
  | .hbm, ⟨25, _⟩ => ⟨S3x3x96x96, .f32⟩
  | .hbm, ⟨26, _⟩ => ⟨S3x3x96x96, .f32⟩
  | .hbm, ⟨27, _⟩ => ⟨S96x384, .f32⟩
  | .hbm, ⟨28, _⟩ => ⟨S384x96, .f32⟩
  | .hbm, ⟨29, _⟩ => ⟨S384x96, .bf16⟩
  | .hbm, ⟨30, _⟩ => ⟨S_, .f32⟩
  | .hbm, ⟨31, _⟩ => ⟨S6x96, .f32⟩
  | .hbm, ⟨32, _⟩ => ⟨S_, .f32⟩
  | .hbm, ⟨33, _⟩ => ⟨S5x96, .f32⟩
  | .hbm, ⟨34, _⟩ => ⟨S_, .f32⟩
  | .hbm, ⟨35, _⟩ => ⟨S1x96, .f32⟩
  | .hbm, ⟨36, _⟩ => ⟨S96x1, .f32⟩
  | .hbm, ⟨37, _⟩ => ⟨S96, .f32⟩
  | .hbm, ⟨38, _⟩ => ⟨S1x96, .f32⟩
  | .hbm, ⟨39, _⟩ => ⟨S96x1, .f32⟩
  | .hbm, ⟨40, _⟩ => ⟨S96, .f32⟩
  | .hbm, ⟨41, _⟩ => ⟨S1x96, .f32⟩
  | .hbm, ⟨42, _⟩ => ⟨S8x96, .f32⟩
  | .hbm, ⟨43, _⟩ => ⟨S_, .f32⟩
  | .hbm, ⟨44, _⟩ => ⟨S96x8, .f32⟩
  | .hbm, ⟨45, _⟩ => ⟨S4x224x224x96, .bf16⟩
  | .hbm, ⟨46, _⟩ => ⟨S96x1, .f32⟩
  | .hbm, ⟨47, _⟩ => ⟨S96, .f32⟩
  | .hbm, ⟨48, _⟩ => ⟨S96x1, .f32⟩
  | .hbm, ⟨49, _⟩ => ⟨S96, .f32⟩
  | .hbm, ⟨50, _⟩ => ⟨S96, .f32⟩
  | .hbm, ⟨51, _⟩ => ⟨S1x96, .f32⟩
  | .hbm, ⟨52, _⟩ => ⟨S96x1, .f32⟩
  | .hbm, ⟨53, _⟩ => ⟨S96, .f32⟩
  | .hbm, ⟨54, _⟩ => ⟨S1x96, .f32⟩
  | .hbm, ⟨55, _⟩ => ⟨S8x96, .f32⟩
  | .hbm, ⟨56, _⟩ => ⟨S96x1, .f32⟩
  | .hbm, ⟨57, _⟩ => ⟨S96, .f32⟩
  | .hbm, ⟨58, _⟩ => ⟨S96x1, .f32⟩
  | .hbm, ⟨59, _⟩ => ⟨S_, .f32⟩
  | .hbm, ⟨60, _⟩ => ⟨S96x7, .f32⟩
  | .hbm, ⟨61, _⟩ => ⟨S96x8, .f32⟩
  | .hbm, ⟨62, _⟩ => ⟨S4x224x224x96, .bf16⟩
  | .hbm, ⟨63, _⟩ => ⟨S96x1, .f32⟩
  | .hbm, ⟨64, _⟩ => ⟨S96, .f32⟩
  | .hbm, ⟨65, _⟩ => ⟨S96x1, .f32⟩
  | .hbm, ⟨66, _⟩ => ⟨S96, .f32⟩
  | .hbm, ⟨67, _⟩ => ⟨S96, .f32⟩
  | .hbm, ⟨68, _⟩ => ⟨S1x96, .f32⟩
  | .hbm, ⟨69, _⟩ => ⟨S96x1, .f32⟩
  | .hbm, ⟨70, _⟩ => ⟨S96, .f32⟩
  | .hbm, ⟨71, _⟩ => ⟨S1x96, .f32⟩
  | .hbm, ⟨72, _⟩ => ⟨S8x96, .f32⟩
  | .hbm, ⟨73, _⟩ => ⟨S96x1, .f32⟩
  | .hbm, ⟨74, _⟩ => ⟨S96, .f32⟩
  | .hbm, ⟨75, _⟩ => ⟨S96x1, .f32⟩
  | .hbm, ⟨76, _⟩ => ⟨S_, .f32⟩
  | .hbm, ⟨77, _⟩ => ⟨S96x7, .f32⟩
  | .hbm, ⟨78, _⟩ => ⟨S96x8, .f32⟩
  | .hbm, ⟨79, _⟩ => ⟨S4x224x224x96, .bf16⟩
  | .hbm, ⟨80, _⟩ => ⟨S96x1, .f32⟩
  | .hbm, ⟨81, _⟩ => ⟨S96, .f32⟩
  | .hbm, ⟨82, _⟩ => ⟨S96x1, .f32⟩
  | .hbm, ⟨83, _⟩ => ⟨S96, .f32⟩
  | .hbm, ⟨84, _⟩ => ⟨S96, .f32⟩
  | .hbm, ⟨85, _⟩ => ⟨S1x96, .f32⟩
  | .hbm, ⟨86, _⟩ => ⟨S96x1, .f32⟩
  | .hbm, ⟨87, _⟩ => ⟨S96, .f32⟩
  | .hbm, ⟨88, _⟩ => ⟨S1x96, .f32⟩
  | .hbm, ⟨89, _⟩ => ⟨S8x96, .f32⟩
  | .hbm, ⟨90, _⟩ => ⟨S96x1, .f32⟩
  | .hbm, ⟨91, _⟩ => ⟨S96, .f32⟩
  | .hbm, ⟨92, _⟩ => ⟨S96x1, .f32⟩
  | .hbm, ⟨93, _⟩ => ⟨S_, .f32⟩
  | .hbm, ⟨94, _⟩ => ⟨S96x7, .f32⟩
  | .hbm, ⟨95, _⟩ => ⟨S96x8, .f32⟩
  | .hbm, ⟨96, _⟩ => ⟨S4x224x224x96, .bf16⟩
  | .hbm, ⟨97, _⟩ => ⟨S1x96, .f32⟩
  | .hbm, ⟨98, _⟩ => ⟨S_, .f32⟩
  | .hbm, ⟨99, _⟩ => ⟨S7x96, .f32⟩
  | .hbm, ⟨100, _⟩ => ⟨S8x96, .f32⟩
  | .hbm, ⟨101, _⟩ => ⟨S4x224x224x96, .f32⟩
  | .hbm, ⟨102, _⟩ => ⟨S4x96x224x224, .f32⟩
  | .local _ .vmem, ⟨0, _⟩ => ⟨S384x2, .f32⟩
  | .local _ .vmem, ⟨1, _⟩ => ⟨S384x2, .f32⟩
  | .local _ .vmem, ⟨2, _⟩ => ⟨S384x2, .f32⟩
  | .local _ .vmem, ⟨3, _⟩ => ⟨S1x32x224x96, .bf16⟩
  | .local _ .vmem, ⟨4, _⟩ => ⟨S1x32x224x96, .bf16⟩
  | .local _ .vmem, ⟨5, _⟩ => ⟨S1x32x224x1, .f32⟩
  | .local _ .vmem, ⟨6, _⟩ => ⟨S1x32x224x1, .f32⟩
  | .local _ .vmem, ⟨7, _⟩ => ⟨S3x3x96x96, .f32⟩
  | .local _ .vmem, ⟨8, _⟩ => ⟨S8x96, .f32⟩
  | .local _ .vmem, ⟨9, _⟩ => ⟨S96x8, .f32⟩
  | .local _ .vmem, ⟨10, _⟩ => ⟨S1x32x224x96, .bf16⟩
  | .local _ .vmem, ⟨11, _⟩ => ⟨S1x32x224x96, .bf16⟩
  | .local _ .vmem, ⟨12, _⟩ => ⟨S226x226x96, .bf16⟩
  | .local _ .vmem, ⟨13, _⟩ => ⟨S1x32x224x96, .bf16⟩
  | .local _ .vmem, ⟨14, _⟩ => ⟨S1x32x224x96, .bf16⟩
  | .local _ .vmem, ⟨15, _⟩ => ⟨S1x32x224x1, .f32⟩
  | .local _ .vmem, ⟨16, _⟩ => ⟨S1x32x224x1, .f32⟩
  | .local _ .vmem, ⟨17, _⟩ => ⟨S3x3x96x96, .f32⟩
  | .local _ .vmem, ⟨18, _⟩ => ⟨S8x96, .f32⟩
  | .local _ .vmem, ⟨19, _⟩ => ⟨S96x8, .f32⟩
  | .local _ .vmem, ⟨20, _⟩ => ⟨S1x32x224x96, .bf16⟩
  | .local _ .vmem, ⟨21, _⟩ => ⟨S1x32x224x96, .bf16⟩
  | .local _ .vmem, ⟨22, _⟩ => ⟨S226x226x96, .bf16⟩
  | .local _ .vmem, ⟨23, _⟩ => ⟨S1x32x224x96, .bf16⟩
  | .local _ .vmem, ⟨24, _⟩ => ⟨S1x32x224x96, .bf16⟩
  | .local _ .vmem, ⟨25, _⟩ => ⟨S1x32x224x1, .f32⟩
  | .local _ .vmem, ⟨26, _⟩ => ⟨S1x32x224x1, .f32⟩
  | .local _ .vmem, ⟨27, _⟩ => ⟨S3x3x96x96, .f32⟩
  | .local _ .vmem, ⟨28, _⟩ => ⟨S8x96, .f32⟩
  | .local _ .vmem, ⟨29, _⟩ => ⟨S96x8, .f32⟩
  | .local _ .vmem, ⟨30, _⟩ => ⟨S1x32x224x96, .bf16⟩
  | .local _ .vmem, ⟨31, _⟩ => ⟨S1x32x224x96, .bf16⟩
  | .local _ .vmem, ⟨32, _⟩ => ⟨S226x226x96, .bf16⟩
  | .local _ .vmem, ⟨33, _⟩ => ⟨S1x32x224x96, .bf16⟩
  | .local _ .vmem, ⟨34, _⟩ => ⟨S1x32x224x96, .bf16⟩
  | .local _ .vmem, ⟨35, _⟩ => ⟨S1x32x224x1, .f32⟩
  | .local _ .vmem, ⟨36, _⟩ => ⟨S1x32x224x1, .f32⟩
  | .local _ .vmem, ⟨37, _⟩ => ⟨S3x3x96x96, .f32⟩
  | .local _ .vmem, ⟨38, _⟩ => ⟨S8x96, .f32⟩
  | .local _ .vmem, ⟨39, _⟩ => ⟨S96x8, .f32⟩
  | .local _ .vmem, ⟨40, _⟩ => ⟨S1x32x224x96, .bf16⟩
  | .local _ .vmem, ⟨41, _⟩ => ⟨S1x32x224x96, .bf16⟩
  | .local _ .vmem, ⟨42, _⟩ => ⟨S226x226x96, .bf16⟩
  | .local _ .vmem, ⟨43, _⟩ => ⟨S1x32x224x96, .bf16⟩
  | .local _ .vmem, ⟨44, _⟩ => ⟨S1x32x224x96, .bf16⟩
  | .local _ .vmem, ⟨45, _⟩ => ⟨S1x32x224x96, .bf16⟩
  | .local _ .vmem, ⟨46, _⟩ => ⟨S1x32x224x96, .bf16⟩
  | .local _ .vmem, ⟨47, _⟩ => ⟨S1x32x224x96, .bf16⟩
  | .local _ .vmem, ⟨48, _⟩ => ⟨S1x32x224x96, .bf16⟩
  | .local _ .vmem, ⟨49, _⟩ => ⟨S1x32x224x96, .bf16⟩
  | .local _ .vmem, ⟨50, _⟩ => ⟨S1x32x224x96, .bf16⟩
  | .local _ .vmem, ⟨51, _⟩ => ⟨S384x96, .bf16⟩
  | .local _ .vmem, ⟨52, _⟩ => ⟨S8x96, .f32⟩
  | .local _ .vmem, ⟨53, _⟩ => ⟨S1x32x224x96, .f32⟩
  | .local _ .vmem, ⟨54, _⟩ => ⟨S1x32x224x96, .f32⟩
  | _, _ => ⟨S4x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_3 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_4 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_5 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_6 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc3_scratch0 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc4_scratch0 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg2_1 : Ref sig .tc := ⟨.vmem, 48, rfl⟩
abbrev cc5_stg3_0 : Ref sig .tc := ⟨.vmem, 49, rfl⟩
abbrev cc5_stg3_1 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg6_0 : Ref sig .tc := ⟨.vmem, 53, rfl⟩
abbrev cc5_stg6_1 : Ref sig .tc := ⟨.vmem, 54, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem5_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem3_1 : DmaSem sig := 46
abbrev cc5_sem4_0 : DmaSem sig := 47
abbrev cc5_sem5_0 : DmaSem sig := 48
abbrev cc5_sem6_0 : DmaSem sig := 49
abbrev cc5_sem6_1 : DmaSem sig := 50

abbrev nD : Nat := 1
abbrev τ : Topo := Topo.v7x

variable {F : FTy → Type} [FloatOps F]

abbrev grid0 : Pipeline.Grid := .none

abbrev stage0_0 : Fin 1 → Memref sig .tc .vmem S384x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S384x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v3 : BitVec 1 := Scalar.cmpi .slt arg1 c7_i32
  let v4 : BitVec 32 := Scalar.extui v3
  let c0_i32_1 : BitVec 32 := 0#32
  let v5 : BitVec 1 := Scalar.cmpi .ne v4 c0_i32_1
  v5

def k1_off1 (i : grid1.Coords) : Fin 3 → Nat :=
  let c1_i32 : BitVec 32 := 1#32
  let arg1 : BitVec 32 := BitVec.ofNat 32 (i 1).val
  let c32_i32 : BitVec 32 := 32#32
  let v10 : BitVec 32 := Scalar.muli arg1 c32_i32
  let v11 : BitVec 32 := Scalar.addi c1_i32 v10
  let v12 : Index := Scalar.indexCast v11
  let c0 : Index := 0#32
  let c0_4 : Index := 0#32
  ![v12.toNat, 0, 0]
def k1_off2 (i : grid1.Coords) : Fin 3 → Nat :=
  let c1_i32 : BitVec 32 := 1#32
  let arg1 : BitVec 32 := BitVec.ofNat 32 (i 1).val
  let c32_i32 : BitVec 32 := 32#32
  let v10 : BitVec 32 := Scalar.muli arg1 c32_i32
  let v11 : BitVec 32 := Scalar.addi c1_i32 v10
  let v12 : Index := Scalar.indexCast v11
  let c0 : Index := 0#32
  let c0_4 : Index := 0#32
  ![v12.toNat, 0, 0]
def k1_off3 (i : grid1.Coords) : Fin 3 → Nat :=
  let c1_i32_6 : BitVec 32 := 1#32
  let arg1 : BitVec 32 := BitVec.ofNat 32 (i 1).val
  let c32_i32_5 : BitVec 32 := 32#32
  let v16 : BitVec 32 := Scalar.muli arg1 c32_i32_5
  let v17 : BitVec 32 := Scalar.addi c1_i32_6 v16
  let v18 : Index := Scalar.indexCast v17
  let c225 : Index := 225#32
  let c0_7 : Index := 0#32
  ![v18.toNat, 225, 0]
def k1_off4 (i : grid1.Coords) : Fin 3 → Nat :=
  let c1_i32_6 : BitVec 32 := 1#32
  let arg1 : BitVec 32 := BitVec.ofNat 32 (i 1).val
  let c32_i32_5 : BitVec 32 := 32#32
  let v16 : BitVec 32 := Scalar.muli arg1 c32_i32_5
  let v17 : BitVec 32 := Scalar.addi c1_i32_6 v16
  let v18 : Index := Scalar.indexCast v17
  let c0_7 : Index := 0#32
  ![v18.toNat, 224, 0]
def k1_off5 (i : grid1.Coords) : Fin 3 → Nat :=
  let c1_i32_13 : BitVec 32 := 1#32
  let arg1 : BitVec 32 := BitVec.ofNat 32 (i 1).val
  let c32_i32_12 : BitVec 32 := 32#32
  let v24 : BitVec 32 := Scalar.muli arg1 c32_i32_12
  let v25 : BitVec 32 := Scalar.addi c1_i32_13 v24
  let v26 : Index := Scalar.indexCast v25
  let c1 : Index := 1#32
  let c0_14 : Index := 0#32
  ![v26.toNat, 1, 0]
def k1_off6 (i : grid1.Coords) : Fin 3 → Nat :=
  let c1_i32_13 : BitVec 32 := 1#32
  let arg1 : BitVec 32 := BitVec.ofNat 32 (i 1).val
  let c32_i32_12 : BitVec 32 := 32#32
  let v24 : BitVec 32 := Scalar.muli arg1 c32_i32_12
  let v25 : BitVec 32 := Scalar.addi c1_i32_13 v24
  let v26 : Index := Scalar.indexCast v25
  let c0_14 : Index := 0#32
  ![v26.toNat, 0, 0]
def k1_cond3 (i : grid1.Coords) : BitVec 1 :=
  let arg1 : BitVec 32 := BitVec.ofNat 32 (i 1).val
  let c0_i32_2 : BitVec 32 := 0#32
  let v6 : BitVec 1 := Scalar.cmpi .sgt arg1 c0_i32_2
  let v7 : BitVec 32 := Scalar.extui v6
  let c0_i32_3 : BitVec 32 := 0#32
  let v8 : BitVec 1 := Scalar.cmpi .ne v7 c0_i32_3
  v8

def k1_off7 (i : grid1.Coords) : Fin 3 → Nat :=
  let arg1 : BitVec 32 := BitVec.ofNat 32 (i 1).val
  let c1_i32 : BitVec 32 := 1#32
  let v9 : BitVec 32 := Scalar.maxsi arg1 c1_i32
  let c1_i32_4 : BitVec 32 := 1#32
  let v10 : BitVec 32 := Scalar.subi v9 c1_i32_4
  let c32_i32 : BitVec 32 := 32#32
  let v11 : BitVec 32 := Scalar.muli v10 c32_i32
  let v16 : Index := Scalar.indexCast v11
  let c0_8 : Index := 0#32
  let c0_9 : Index := 0#32
  ![v16.toNat, 0, 0]
def cc1_transform_0 (i : grid1.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  let c0_i32_0 : BitVec 32 := 0#32
  let c0_i32_1 : BitVec 32 := 0#32
  ![arg0.toNat, v0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.maxsi arg1 c1_i32
  let c1_i32_0 : BitVec 32 := 1#32
  let v1 : BitVec 32 := Scalar.subi v0 c1_i32_0
  let c0_i32 : BitVec 32 := 0#32
  let c0_i32_1 : BitVec 32 := 0#32
  let c0_i32_2 : BitVec 32 := 0#32
  ![arg0.toNat, v1.toNat, c0_i32.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.maxsi arg1 c1_i32
  let c1_i32_0 : BitVec 32 := 1#32
  let v1 : BitVec 32 := Scalar.subi v0 c1_i32_0
  let c0_i32 : BitVec 32 := 0#32
  let c0_i32_1 : BitVec 32 := 0#32
  let c0_i32_2 : BitVec 32 := 0#32
  ![arg0.toNat, v1.toNat, c0_i32.toNat, c0_i32_1.toNat]

abbrev stage1_0 : Fin 2 → Memref sig .tc .vmem S1x32x224x96 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x224x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S3x3x96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S8x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S96x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x32x224x96 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v3 : BitVec 1 := Scalar.cmpi .slt arg1 c7_i32
  let v4 : BitVec 32 := Scalar.extui v3
  let c0_i32_1 : BitVec 32 := 0#32
  let v5 : BitVec 1 := Scalar.cmpi .ne v4 c0_i32_1
  v5

def k2_off1 (i : grid2.Coords) : Fin 3 → Nat :=
  let c1_i32 : BitVec 32 := 1#32
  let arg1 : BitVec 32 := BitVec.ofNat 32 (i 1).val
  let c32_i32 : BitVec 32 := 32#32
  let v10 : BitVec 32 := Scalar.muli arg1 c32_i32
  let v11 : BitVec 32 := Scalar.addi c1_i32 v10
  let v12 : Index := Scalar.indexCast v11
  let c0 : Index := 0#32
  let c0_4 : Index := 0#32
  ![v12.toNat, 0, 0]
def k2_off2 (i : grid2.Coords) : Fin 3 → Nat :=
  let c1_i32 : BitVec 32 := 1#32
  let arg1 : BitVec 32 := BitVec.ofNat 32 (i 1).val
  let c32_i32 : BitVec 32 := 32#32
  let v10 : BitVec 32 := Scalar.muli arg1 c32_i32
  let v11 : BitVec 32 := Scalar.addi c1_i32 v10
  let v12 : Index := Scalar.indexCast v11
  let c0 : Index := 0#32
  let c0_4 : Index := 0#32
  ![v12.toNat, 0, 0]
def k2_off3 (i : grid2.Coords) : Fin 3 → Nat :=
  let c1_i32_6 : BitVec 32 := 1#32
  let arg1 : BitVec 32 := BitVec.ofNat 32 (i 1).val
  let c32_i32_5 : BitVec 32 := 32#32
  let v16 : BitVec 32 := Scalar.muli arg1 c32_i32_5
  let v17 : BitVec 32 := Scalar.addi c1_i32_6 v16
  let v18 : Index := Scalar.indexCast v17
  let c225 : Index := 225#32
  let c0_7 : Index := 0#32
  ![v18.toNat, 225, 0]
def k2_off4 (i : grid2.Coords) : Fin 3 → Nat :=
  let c1_i32_6 : BitVec 32 := 1#32
  let arg1 : BitVec 32 := BitVec.ofNat 32 (i 1).val
  let c32_i32_5 : BitVec 32 := 32#32
  let v16 : BitVec 32 := Scalar.muli arg1 c32_i32_5
  let v17 : BitVec 32 := Scalar.addi c1_i32_6 v16
  let v18 : Index := Scalar.indexCast v17
  let c0_7 : Index := 0#32
  ![v18.toNat, 224, 0]
def k2_off5 (i : grid2.Coords) : Fin 3 → Nat :=
  let c1_i32_13 : BitVec 32 := 1#32
  let arg1 : BitVec 32 := BitVec.ofNat 32 (i 1).val
  let c32_i32_12 : BitVec 32 := 32#32
  let v24 : BitVec 32 := Scalar.muli arg1 c32_i32_12
  let v25 : BitVec 32 := Scalar.addi c1_i32_13 v24
  let v26 : Index := Scalar.indexCast v25
  let c1 : Index := 1#32
  let c0_14 : Index := 0#32
  ![v26.toNat, 1, 0]
def k2_off6 (i : grid2.Coords) : Fin 3 → Nat :=
  let c1_i32_13 : BitVec 32 := 1#32
  let arg1 : BitVec 32 := BitVec.ofNat 32 (i 1).val
  let c32_i32_12 : BitVec 32 := 32#32
  let v24 : BitVec 32 := Scalar.muli arg1 c32_i32_12
  let v25 : BitVec 32 := Scalar.addi c1_i32_13 v24
  let v26 : Index := Scalar.indexCast v25
  let c0_14 : Index := 0#32
  ![v26.toNat, 0, 0]
def k2_cond3 (i : grid2.Coords) : BitVec 1 :=
  let arg1 : BitVec 32 := BitVec.ofNat 32 (i 1).val
  let c0_i32_2 : BitVec 32 := 0#32
  let v6 : BitVec 1 := Scalar.cmpi .sgt arg1 c0_i32_2
  let v7 : BitVec 32 := Scalar.extui v6
  let c0_i32_3 : BitVec 32 := 0#32
  let v8 : BitVec 1 := Scalar.cmpi .ne v7 c0_i32_3
  v8

def k2_off7 (i : grid2.Coords) : Fin 3 → Nat :=
  let arg1 : BitVec 32 := BitVec.ofNat 32 (i 1).val
  let c1_i32 : BitVec 32 := 1#32
  let v9 : BitVec 32 := Scalar.maxsi arg1 c1_i32
  let c1_i32_4 : BitVec 32 := 1#32
  let v10 : BitVec 32 := Scalar.subi v9 c1_i32_4
  let c32_i32 : BitVec 32 := 32#32
  let v11 : BitVec 32 := Scalar.muli v10 c32_i32
  let v23 : Index := Scalar.indexCast v11
  let c0_11 : Index := 0#32
  let c0_12 : Index := 0#32
  ![v23.toNat, 0, 0]
def cc2_transform_0 (i : grid2.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  let c0_i32_0 : BitVec 32 := 0#32
  let c0_i32_1 : BitVec 32 := 0#32
  ![arg0.toNat, v0.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.maxsi arg1 c1_i32
  let c1_i32_0 : BitVec 32 := 1#32
  let v1 : BitVec 32 := Scalar.subi v0 c1_i32_0
  let c0_i32 : BitVec 32 := 0#32
  let c0_i32_1 : BitVec 32 := 0#32
  let c0_i32_2 : BitVec 32 := 0#32
  ![arg0.toNat, v1.toNat, c0_i32.toNat, c0_i32_1.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.maxsi arg1 c1_i32
  let c1_i32_0 : BitVec 32 := 1#32
  let v1 : BitVec 32 := Scalar.subi v0 c1_i32_0
  let c0_i32 : BitVec 32 := 0#32
  let c0_i32_1 : BitVec 32 := 0#32
  let c0_i32_2 : BitVec 32 := 0#32
  ![arg0.toNat, v1.toNat, c0_i32.toNat, c0_i32_1.toNat]

abbrev stage2_0 : Fin 2 → Memref sig .tc .vmem S1x32x224x96 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x32x224x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S3x3x96x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S8x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S96x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x32x224x96 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![4, 8], ![false, false]⟩

def k3_cond2 (i : grid3.Coords) : BitVec 1 :=
  let arg1 : BitVec 32 := BitVec.ofNat 32 (i 1).val
  let c7_i32 : BitVec 32 := 7#32
  let v3 : BitVec 1 := Scalar.cmpi .slt arg1 c7_i32
  let v4 : BitVec 32 := Scalar.extui v3
  let c0_i32_1 : BitVec 32 := 0#32
  let v5 : BitVec 1 := Scalar.cmpi .ne v4 c0_i32_1
  v5

def k3_off1 (i : grid3.Coords) : Fin 3 → Nat :=
  let c1_i32 : BitVec 32 := 1#32
  let arg1 : BitVec 32 := BitVec.ofNat 32 (i 1).val
  let c32_i32 : BitVec 32 := 32#32
  let v10 : BitVec 32 := Scalar.muli arg1 c32_i32
  let v11 : BitVec 32 := Scalar.addi c1_i32 v10
  let v12 : Index := Scalar.indexCast v11
  let c0 : Index := 0#32
  let c0_4 : Index := 0#32
  ![v12.toNat, 0, 0]
def k3_off2 (i : grid3.Coords) : Fin 3 → Nat :=
  let c1_i32 : BitVec 32 := 1#32
  let arg1 : BitVec 32 := BitVec.ofNat 32 (i 1).val
  let c32_i32 : BitVec 32 := 32#32
  let v10 : BitVec 32 := Scalar.muli arg1 c32_i32
  let v11 : BitVec 32 := Scalar.addi c1_i32 v10
  let v12 : Index := Scalar.indexCast v11
  let c0 : Index := 0#32
  let c0_4 : Index := 0#32
  ![v12.toNat, 0, 0]
def k3_off3 (i : grid3.Coords) : Fin 3 → Nat :=
  let c1_i32_6 : BitVec 32 := 1#32
  let arg1 : BitVec 32 := BitVec.ofNat 32 (i 1).val
  let c32_i32_5 : BitVec 32 := 32#32
  let v16 : BitVec 32 := Scalar.muli arg1 c32_i32_5
  let v17 : BitVec 32 := Scalar.addi c1_i32_6 v16
  let v18 : Index := Scalar.indexCast v17
  let c225 : Index := 225#32
  let c0_7 : Index := 0#32
  ![v18.toNat, 225, 0]
def k3_off4 (i : grid3.Coords) : Fin 3 → Nat :=
  let c1_i32_6 : BitVec 32 := 1#32
  let arg1 : BitVec 32 := BitVec.ofNat 32 (i 1).val
  let c32_i32_5 : BitVec 32 := 32#32
  let v16 : BitVec 32 := Scalar.muli arg1 c32_i32_5
  let v17 : BitVec 32 := Scalar.addi c1_i32_6 v16
  let v18 : Index := Scalar.indexCast v17
  let c0_7 : Index := 0#32
  ![v18.toNat, 224, 0]
def k3_off5 (i : grid3.Coords) : Fin 3 → Nat :=
  let c1_i32_13 : BitVec 32 := 1#32
  let arg1 : BitVec 32 := BitVec.ofNat 32 (i 1).val
  let c32_i32_12 : BitVec 32 := 32#32
  let v24 : BitVec 32 := Scalar.muli arg1 c32_i32_12
  let v25 : BitVec 32 := Scalar.addi c1_i32_13 v24
  let v26 : Index := Scalar.indexCast v25
  let c1 : Index := 1#32
  let c0_14 : Index := 0#32
  ![v26.toNat, 1, 0]
def k3_off6 (i : grid3.Coords) : Fin 3 → Nat :=
  let c1_i32_13 : BitVec 32 := 1#32
  let arg1 : BitVec 32 := BitVec.ofNat 32 (i 1).val
  let c32_i32_12 : BitVec 32 := 32#32
  let v24 : BitVec 32 := Scalar.muli arg1 c32_i32_12
  let v25 : BitVec 32 := Scalar.addi c1_i32_13 v24
  let v26 : Index := Scalar.indexCast v25
  let c0_14 : Index := 0#32
  ![v26.toNat, 0, 0]
def k3_cond3 (i : grid3.Coords) : BitVec 1 :=
  let arg1 : BitVec 32 := BitVec.ofNat 32 (i 1).val
  let c0_i32_2 : BitVec 32 := 0#32
  let v6 : BitVec 1 := Scalar.cmpi .sgt arg1 c0_i32_2
  let v7 : BitVec 32 := Scalar.extui v6
  let c0_i32_3 : BitVec 32 := 0#32
  let v8 : BitVec 1 := Scalar.cmpi .ne v7 c0_i32_3
  v8

def k3_off7 (i : grid3.Coords) : Fin 3 → Nat :=
  let arg1 : BitVec 32 := BitVec.ofNat 32 (i 1).val
  let c1_i32 : BitVec 32 := 1#32
  let v9 : BitVec 32 := Scalar.maxsi arg1 c1_i32
  let c1_i32_4 : BitVec 32 := 1#32
  let v10 : BitVec 32 := Scalar.subi v9 c1_i32_4
  let c32_i32 : BitVec 32 := 32#32
  let v11 : BitVec 32 := Scalar.muli v10 c32_i32
  let v23 : Index := Scalar.indexCast v11
  let c0_11 : Index := 0#32
  let c0_12 : Index := 0#32
  ![v23.toNat, 0, 0]
def cc3_transform_0 (i : grid3.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  let c0_i32_0 : BitVec 32 := 0#32
  let c0_i32_1 : BitVec 32 := 0#32
  ![arg0.toNat, v0.toNat, c0_i32.toNat, c0_i32_0.toNat]

def cc3_transform_1 (i : grid3.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.maxsi arg1 c1_i32
  let c1_i32_0 : BitVec 32 := 1#32
  let v1 : BitVec 32 := Scalar.subi v0 c1_i32_0
  let c0_i32 : BitVec 32 := 0#32
  let c0_i32_1 : BitVec 32 := 0#32
  let c0_i32_2 : BitVec 32 := 0#32
  ![arg0.toNat, v1.toNat, c0_i32.toNat, c0_i32_1.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.maxsi arg1 c1_i32
  let c1_i32_0 : BitVec 32 := 1#32
  let v1 : BitVec 32 := Scalar.subi v0 c1_i32_0
  let c0_i32 : BitVec 32 := 0#32
  let c0_i32_1 : BitVec 32 := 0#32
  let c0_i32_2 : BitVec 32 := 0#32
  ![arg0.toNat, v1.toNat, c0_i32.toNat, c0_i32_1.toNat]

abbrev stage3_0 : Fin 2 → Memref sig .tc .vmem S1x32x224x96 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x32x224x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S3x3x96x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S8x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S96x8 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x32x224x96 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨2, ![4, 8], ![false, false]⟩

def k4_cond2 (i : grid4.Coords) : BitVec 1 :=
  let arg1 : BitVec 32 := BitVec.ofNat 32 (i 1).val
  let c7_i32 : BitVec 32 := 7#32
  let v3 : BitVec 1 := Scalar.cmpi .slt arg1 c7_i32
  let v4 : BitVec 32 := Scalar.extui v3
  let c0_i32_1 : BitVec 32 := 0#32
  let v5 : BitVec 1 := Scalar.cmpi .ne v4 c0_i32_1
  v5

def k4_off1 (i : grid4.Coords) : Fin 3 → Nat :=
  let c1_i32 : BitVec 32 := 1#32
  let arg1 : BitVec 32 := BitVec.ofNat 32 (i 1).val
  let c32_i32 : BitVec 32 := 32#32
  let v10 : BitVec 32 := Scalar.muli arg1 c32_i32
  let v11 : BitVec 32 := Scalar.addi c1_i32 v10
  let v12 : Index := Scalar.indexCast v11
  let c0 : Index := 0#32
  let c0_4 : Index := 0#32
  ![v12.toNat, 0, 0]
def k4_off2 (i : grid4.Coords) : Fin 3 → Nat :=
  let c1_i32 : BitVec 32 := 1#32
  let arg1 : BitVec 32 := BitVec.ofNat 32 (i 1).val
  let c32_i32 : BitVec 32 := 32#32
  let v10 : BitVec 32 := Scalar.muli arg1 c32_i32
  let v11 : BitVec 32 := Scalar.addi c1_i32 v10
  let v12 : Index := Scalar.indexCast v11
  let c0 : Index := 0#32
  let c0_4 : Index := 0#32
  ![v12.toNat, 0, 0]
def k4_off3 (i : grid4.Coords) : Fin 3 → Nat :=
  let c1_i32_6 : BitVec 32 := 1#32
  let arg1 : BitVec 32 := BitVec.ofNat 32 (i 1).val
  let c32_i32_5 : BitVec 32 := 32#32
  let v16 : BitVec 32 := Scalar.muli arg1 c32_i32_5
  let v17 : BitVec 32 := Scalar.addi c1_i32_6 v16
  let v18 : Index := Scalar.indexCast v17
  let c225 : Index := 225#32
  let c0_7 : Index := 0#32
  ![v18.toNat, 225, 0]
def k4_off4 (i : grid4.Coords) : Fin 3 → Nat :=
  let c1_i32_6 : BitVec 32 := 1#32
  let arg1 : BitVec 32 := BitVec.ofNat 32 (i 1).val
  let c32_i32_5 : BitVec 32 := 32#32
  let v16 : BitVec 32 := Scalar.muli arg1 c32_i32_5
  let v17 : BitVec 32 := Scalar.addi c1_i32_6 v16
  let v18 : Index := Scalar.indexCast v17
  let c0_7 : Index := 0#32
  ![v18.toNat, 224, 0]
def k4_off5 (i : grid4.Coords) : Fin 3 → Nat :=
  let c1_i32_13 : BitVec 32 := 1#32
  let arg1 : BitVec 32 := BitVec.ofNat 32 (i 1).val
  let c32_i32_12 : BitVec 32 := 32#32
  let v24 : BitVec 32 := Scalar.muli arg1 c32_i32_12
  let v25 : BitVec 32 := Scalar.addi c1_i32_13 v24
  let v26 : Index := Scalar.indexCast v25
  let c1 : Index := 1#32
  let c0_14 : Index := 0#32
  ![v26.toNat, 1, 0]
def k4_off6 (i : grid4.Coords) : Fin 3 → Nat :=
  let c1_i32_13 : BitVec 32 := 1#32
  let arg1 : BitVec 32 := BitVec.ofNat 32 (i 1).val
  let c32_i32_12 : BitVec 32 := 32#32
  let v24 : BitVec 32 := Scalar.muli arg1 c32_i32_12
  let v25 : BitVec 32 := Scalar.addi c1_i32_13 v24
  let v26 : Index := Scalar.indexCast v25
  let c0_14 : Index := 0#32
  ![v26.toNat, 0, 0]
def k4_cond3 (i : grid4.Coords) : BitVec 1 :=
  let arg1 : BitVec 32 := BitVec.ofNat 32 (i 1).val
  let c0_i32_2 : BitVec 32 := 0#32
  let v6 : BitVec 1 := Scalar.cmpi .sgt arg1 c0_i32_2
  let v7 : BitVec 32 := Scalar.extui v6
  let c0_i32_3 : BitVec 32 := 0#32
  let v8 : BitVec 1 := Scalar.cmpi .ne v7 c0_i32_3
  v8

def k4_off7 (i : grid4.Coords) : Fin 3 → Nat :=
  let arg1 : BitVec 32 := BitVec.ofNat 32 (i 1).val
  let c1_i32 : BitVec 32 := 1#32
  let v9 : BitVec 32 := Scalar.maxsi arg1 c1_i32
  let c1_i32_4 : BitVec 32 := 1#32
  let v10 : BitVec 32 := Scalar.subi v9 c1_i32_4
  let c32_i32 : BitVec 32 := 32#32
  let v11 : BitVec 32 := Scalar.muli v10 c32_i32
  let v23 : Index := Scalar.indexCast v11
  let c0_11 : Index := 0#32
  let c0_12 : Index := 0#32
  ![v23.toNat, 0, 0]
def cc4_transform_0 (i : grid4.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.minsi arg1 c6_i32
  let c0_i32 : BitVec 32 := 0#32
  let c0_i32_0 : BitVec 32 := 0#32
  let c0_i32_1 : BitVec 32 := 0#32
  ![arg0.toNat, v0.toNat, c0_i32.toNat, c0_i32_0.toNat]

def cc4_transform_1 (i : grid4.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.maxsi arg1 c1_i32
  let c1_i32_0 : BitVec 32 := 1#32
  let v1 : BitVec 32 := Scalar.subi v0 c1_i32_0
  let c0_i32 : BitVec 32 := 0#32
  let c0_i32_1 : BitVec 32 := 0#32
  let c0_i32_2 : BitVec 32 := 0#32
  ![arg0.toNat, v1.toNat, c0_i32.toNat, c0_i32_1.toNat]

def cc4_transform_2 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.maxsi arg1 c1_i32
  let c1_i32_0 : BitVec 32 := 1#32
  let v1 : BitVec 32 := Scalar.subi v0 c1_i32_0
  let c0_i32 : BitVec 32 := 0#32
  let c0_i32_1 : BitVec 32 := 0#32
  let c0_i32_2 : BitVec 32 := 0#32
  ![arg0.toNat, v1.toNat, c0_i32.toNat, c0_i32_1.toNat]

abbrev stage4_0 : Fin 2 → Memref sig .tc .vmem S1x32x224x96 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x32x224x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S3x3x96x96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S8x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S96x8 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 2 → Memref sig .tc .vmem S1x32x224x96 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨2, ![4, 7], ![false, false]⟩

def cc5_transform_0 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc5_transform_1 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc5_transform_2 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc5_transform_3 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage5_0 : Fin 2 → Memref sig .tc .vmem S1x32x224x96 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x32x224x96 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x32x224x96 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1x32x224x96 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 1 → Memref sig .tc .vmem S384x96 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S8x96 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 2 → Memref sig .tc .vmem S1x32x224x96 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]
-- ==== ReferenceIdeal.lean ====
abbrev S4x96x224x224 : Shape := ⟨4, ![4, 96, 224, 224]⟩
abbrev S4x1x224x224 : Shape := ⟨4, ![4, 1, 224, 224]⟩
abbrev S1x96x4x2 : Shape := ⟨4, ![1, 96, 4, 2]⟩
abbrev S96x96x3x3 : Shape := ⟨4, ![96, 96, 3, 3]⟩
abbrev S96x384x1x1 : Shape := ⟨4, ![96, 384, 1, 1]⟩
abbrev S96 : Shape := ⟨1, ![96]⟩
abbrev S_ : Shape := ⟨0, ![]⟩
abbrev S1x96x4 : Shape := ⟨3, ![1, 96, 4]⟩
abbrev S1x96x4x1 : Shape := ⟨4, ![1, 96, 4, 1]⟩
abbrev S4x96x226x226 : Shape := ⟨4, ![4, 96, 226, 226]⟩
abbrev S96x96x1x1 : Shape := ⟨4, ![96, 96, 1, 1]⟩
abbrev S96x96 : Shape := ⟨2, ![96, 96]⟩
abbrev S96x4x224x224 : Shape := ⟨4, ![96, 4, 224, 224]⟩
abbrev S1x96x1x1 : Shape := ⟨4, ![1, 96, 1, 1]⟩
abbrev S4x384x224x224 : Shape := ⟨4, ![4, 384, 224, 224]⟩
abbrev S96x384 : Shape := ⟨2, ![96, 384]⟩

abbrev nBuf : Space → Nat
  | .hbm => 533
  | .vmem => 0
  | .smem => 0
  | _ => 0

abbrev hbmTy0_0 (i : Nat) : BufTy := match i % 128 with
  | 0 => ⟨S4x96x224x224, .f32⟩
  | 1 => ⟨S4x1x224x224, .f32⟩
  | 2 => ⟨S1x96x4x2, .f32⟩
  | 3 => ⟨S96x96x3x3, .f32⟩
  | 4 => ⟨S96x96x3x3, .f32⟩
  | 5 => ⟨S96x96x3x3, .f32⟩
  | 6 => ⟨S96x96x3x3, .f32⟩
  | 7 => ⟨S96x384x1x1, .f32⟩
  | 8 => ⟨S96, .f32⟩
  | 9 => ⟨S1x96x4x2, .f32⟩
  | 10 => ⟨S1x96x4x2, .f32⟩
  | 11 => ⟨S1x96x4x2, .f32⟩
  | 12 => ⟨S1x96x4x2, .f32⟩
  | 13 => ⟨S1x96x4x2, .f32⟩
  | 14 => ⟨S1x96x4x2, .f32⟩
  | 15 => ⟨S_, .f32⟩
  | 16 => ⟨S1x96x4x2, .f32⟩
  | 17 => ⟨S1x96x4x2, .f32⟩
  | 18 => ⟨S_, .f32⟩
  | 19 => ⟨S1x96x4, .f32⟩
  | 20 => ⟨S_, .f32⟩
  | 21 => ⟨S1x96x4, .f32⟩
  | 22 => ⟨S1x96x4, .f32⟩
  | 23 => ⟨S1x96x4x1, .f32⟩
  | 24 => ⟨S1x96x4x2, .f32⟩
  | 25 => ⟨S1x96x4x2, .f32⟩
  | 26 => ⟨S1x96x4x2, .f32⟩
  | 27 => ⟨S_, .f32⟩
  | 28 => ⟨S1x96x4, .f32⟩
  | 29 => ⟨S1x96x4x1, .f32⟩
  | 30 => ⟨S1x96x4x2, .f32⟩
  | 31 => ⟨S1x96x4x2, .f32⟩
  | 32 => ⟨S_, .i32⟩
  | 33 => ⟨S_, .f32⟩
  | 34 => ⟨S4x96x226x226, .f32⟩
  | 35 => ⟨S4x96x224x224, .f32⟩
  | 36 => ⟨S96x96x1x1, .f32⟩
  | 37 => ⟨S96x96, .f32⟩
  | 38 => ⟨S96x4x224x224, .f32⟩
  | 39 => ⟨S4x96x224x224, .f32⟩
  | 40 => ⟨S4x96x224x224, .f32⟩
  | 41 => ⟨S96x96x1x1, .f32⟩
  | 42 => ⟨S96x96, .f32⟩
  | 43 => ⟨S96x4x224x224, .f32⟩
  | 44 => ⟨S4x96x224x224, .f32⟩
  | 45 => ⟨S4x96x224x224, .f32⟩
  | 46 => ⟨S4x96x224x224, .f32⟩
  | 47 => ⟨S96x96x1x1, .f32⟩
  | 48 => ⟨S96x96, .f32⟩
  | 49 => ⟨S96x4x224x224, .f32⟩
  | 50 => ⟨S4x96x224x224, .f32⟩
  | 51 => ⟨S4x96x224x224, .f32⟩
  | 52 => ⟨S4x96x224x224, .f32⟩
  | 53 => ⟨S96x96x1x1, .f32⟩
  | 54 => ⟨S96x96, .f32⟩
  | 55 => ⟨S96x4x224x224, .f32⟩
  | 56 => ⟨S4x96x224x224, .f32⟩
  | 57 => ⟨S4x96x224x224, .f32⟩
  | 58 => ⟨S4x96x224x224, .f32⟩
  | 59 => ⟨S96x96x1x1, .f32⟩
  | 60 => ⟨S96x96, .f32⟩
  | 61 => ⟨S96x4x224x224, .f32⟩
  | 62 => ⟨S4x96x224x224, .f32⟩
  | 63 => ⟨S4x96x224x224, .f32⟩
  | 64 => ⟨S4x96x224x224, .f32⟩
  | 65 => ⟨S96x96x1x1, .f32⟩
  | 66 => ⟨S96x96, .f32⟩
  | 67 => ⟨S96x4x224x224, .f32⟩
  | 68 => ⟨S4x96x224x224, .f32⟩
  | 69 => ⟨S4x96x224x224, .f32⟩
  | 70 => ⟨S4x96x224x224, .f32⟩
  | 71 => ⟨S96x96x1x1, .f32⟩
  | 72 => ⟨S96x96, .f32⟩
  | 73 => ⟨S96x4x224x224, .f32⟩
  | 74 => ⟨S4x96x224x224, .f32⟩
  | 75 => ⟨S4x96x224x224, .f32⟩
  | 76 => ⟨S4x96x224x224, .f32⟩
  | 77 => ⟨S96x96x1x1, .f32⟩
  | 78 => ⟨S96x96, .f32⟩
  | 79 => ⟨S96x4x224x224, .f32⟩
  | 80 => ⟨S4x96x224x224, .f32⟩
  | 81 => ⟨S4x96x224x224, .f32⟩
  | 82 => ⟨S4x96x224x224, .f32⟩
  | 83 => ⟨S96x96x1x1, .f32⟩
  | 84 => ⟨S96x96, .f32⟩
  | 85 => ⟨S96x4x224x224, .f32⟩
  | 86 => ⟨S4x96x224x224, .f32⟩
  | 87 => ⟨S4x96x224x224, .f32⟩
  | 88 => ⟨S1x96x1x1, .f32⟩
  | 89 => ⟨S4x96x224x224, .f32⟩
  | 90 => ⟨S4x96x224x224, .f32⟩
  | 91 => ⟨S4x96x224x224, .f32⟩
  | 92 => ⟨S4x96x224x224, .f32⟩
  | 93 => ⟨S1x96x1x1, .f32⟩
  | 94 => ⟨S4x96x224x224, .f32⟩
  | 95 => ⟨S4x96x224x224, .f32⟩
  | 96 => ⟨S4x96x224x224, .f32⟩
  | 97 => ⟨S_, .f32⟩
  | 98 => ⟨S4x96x224x224, .f32⟩
  | 99 => ⟨S4x96x224x224, .f32⟩
  | 100 => ⟨S1x96x1x1, .f32⟩
  | 101 => ⟨S4x96x224x224, .f32⟩
  | 102 => ⟨S4x96x224x224, .f32⟩
  | 103 => ⟨S_, .i32⟩
  | 104 => ⟨S_, .f32⟩
  | 105 => ⟨S4x96x226x226, .f32⟩
  | 106 => ⟨S4x96x224x224, .f32⟩
  | 107 => ⟨S96x96x1x1, .f32⟩
  | 108 => ⟨S96x96, .f32⟩
  | 109 => ⟨S96x4x224x224, .f32⟩
  | 110 => ⟨S4x96x224x224, .f32⟩
  | 111 => ⟨S4x96x224x224, .f32⟩
  | 112 => ⟨S96x96x1x1, .f32⟩
  | 113 => ⟨S96x96, .f32⟩
  | 114 => ⟨S96x4x224x224, .f32⟩
  | 115 => ⟨S4x96x224x224, .f32⟩
  | 116 => ⟨S4x96x224x224, .f32⟩
  | 117 => ⟨S4x96x224x224, .f32⟩
  | 118 => ⟨S96x96x1x1, .f32⟩
  | 119 => ⟨S96x96, .f32⟩
  | 120 => ⟨S96x4x224x224, .f32⟩
  | 121 => ⟨S4x96x224x224, .f32⟩
  | 122 => ⟨S4x96x224x224, .f32⟩
  | 123 => ⟨S4x96x224x224, .f32⟩
  | 124 => ⟨S96x96x1x1, .f32⟩
  | 125 => ⟨S96x96, .f32⟩
  | 126 => ⟨S96x4x224x224, .f32⟩
  | 127 => ⟨S4x96x224x224, .f32⟩
  | _ => ⟨S4x96x224x224, .f32⟩

abbrev hbmTy0_1 (i : Nat) : BufTy := match i % 128 with
  | 0 => ⟨S4x96x224x224, .f32⟩
  | 1 => ⟨S4x96x224x224, .f32⟩
  | 2 => ⟨S96x96x1x1, .f32⟩
  | 3 => ⟨S96x96, .f32⟩
  | 4 => ⟨S96x4x224x224, .f32⟩
  | 5 => ⟨S4x96x224x224, .f32⟩
  | 6 => ⟨S4x96x224x224, .f32⟩
  | 7 => ⟨S4x96x224x224, .f32⟩
  | 8 => ⟨S96x96x1x1, .f32⟩
  | 9 => ⟨S96x96, .f32⟩
  | 10 => ⟨S96x4x224x224, .f32⟩
  | 11 => ⟨S4x96x224x224, .f32⟩
  | 12 => ⟨S4x96x224x224, .f32⟩
  | 13 => ⟨S4x96x224x224, .f32⟩
  | 14 => ⟨S96x96x1x1, .f32⟩
  | 15 => ⟨S96x96, .f32⟩
  | 16 => ⟨S96x4x224x224, .f32⟩
  | 17 => ⟨S4x96x224x224, .f32⟩
  | 18 => ⟨S4x96x224x224, .f32⟩
  | 19 => ⟨S4x96x224x224, .f32⟩
  | 20 => ⟨S96x96x1x1, .f32⟩
  | 21 => ⟨S96x96, .f32⟩
  | 22 => ⟨S96x4x224x224, .f32⟩
  | 23 => ⟨S4x96x224x224, .f32⟩
  | 24 => ⟨S4x96x224x224, .f32⟩
  | 25 => ⟨S4x96x224x224, .f32⟩
  | 26 => ⟨S96x96x1x1, .f32⟩
  | 27 => ⟨S96x96, .f32⟩
  | 28 => ⟨S96x4x224x224, .f32⟩
  | 29 => ⟨S4x96x224x224, .f32⟩
  | 30 => ⟨S4x96x224x224, .f32⟩
  | 31 => ⟨S1x96x1x1, .f32⟩
  | 32 => ⟨S4x96x224x224, .f32⟩
  | 33 => ⟨S4x96x224x224, .f32⟩
  | 34 => ⟨S_, .i32⟩
  | 35 => ⟨S_, .f32⟩
  | 36 => ⟨S4x96x226x226, .f32⟩
  | 37 => ⟨S4x96x224x224, .f32⟩
  | 38 => ⟨S96x96x1x1, .f32⟩
  | 39 => ⟨S96x96, .f32⟩
  | 40 => ⟨S96x4x224x224, .f32⟩
  | 41 => ⟨S4x96x224x224, .f32⟩
  | 42 => ⟨S4x96x224x224, .f32⟩
  | 43 => ⟨S96x96x1x1, .f32⟩
  | 44 => ⟨S96x96, .f32⟩
  | 45 => ⟨S96x4x224x224, .f32⟩
  | 46 => ⟨S4x96x224x224, .f32⟩
  | 47 => ⟨S4x96x224x224, .f32⟩
  | 48 => ⟨S4x96x224x224, .f32⟩
  | 49 => ⟨S96x96x1x1, .f32⟩
  | 50 => ⟨S96x96, .f32⟩
  | 51 => ⟨S96x4x224x224, .f32⟩
  | 52 => ⟨S4x96x224x224, .f32⟩
  | 53 => ⟨S4x96x224x224, .f32⟩
  | 54 => ⟨S4x96x224x224, .f32⟩
  | 55 => ⟨S96x96x1x1, .f32⟩
  | 56 => ⟨S96x96, .f32⟩
  | 57 => ⟨S96x4x224x224, .f32⟩
  | 58 => ⟨S4x96x224x224, .f32⟩
  | 59 => ⟨S4x96x224x224, .f32⟩
  | 60 => ⟨S4x96x224x224, .f32⟩
  | 61 => ⟨S96x96x1x1, .f32⟩
  | 62 => ⟨S96x96, .f32⟩
  | 63 => ⟨S96x4x224x224, .f32⟩
  | 64 => ⟨S4x96x224x224, .f32⟩
  | 65 => ⟨S4x96x224x224, .f32⟩
  | 66 => ⟨S4x96x224x224, .f32⟩
  | 67 => ⟨S96x96x1x1, .f32⟩
  | 68 => ⟨S96x96, .f32⟩
  | 69 => ⟨S96x4x224x224, .f32⟩
  | 70 => ⟨S4x96x224x224, .f32⟩
  | 71 => ⟨S4x96x224x224, .f32⟩
  | 72 => ⟨S4x96x224x224, .f32⟩
  | 73 => ⟨S96x96x1x1, .f32⟩
  | 74 => ⟨S96x96, .f32⟩
  | 75 => ⟨S96x4x224x224, .f32⟩
  | 76 => ⟨S4x96x224x224, .f32⟩
  | 77 => ⟨S4x96x224x224, .f32⟩
  | 78 => ⟨S4x96x224x224, .f32⟩
  | 79 => ⟨S96x96x1x1, .f32⟩
  | 80 => ⟨S96x96, .f32⟩
  | 81 => ⟨S96x4x224x224, .f32⟩
  | 82 => ⟨S4x96x224x224, .f32⟩
  | 83 => ⟨S4x96x224x224, .f32⟩
  | 84 => ⟨S4x96x224x224, .f32⟩
  | 85 => ⟨S96x96x1x1, .f32⟩
  | 86 => ⟨S96x96, .f32⟩
  | 87 => ⟨S96x4x224x224, .f32⟩
  | 88 => ⟨S4x96x224x224, .f32⟩
  | 89 => ⟨S4x96x224x224, .f32⟩
  | 90 => ⟨S1x96x1x1, .f32⟩
  | 91 => ⟨S4x96x224x224, .f32⟩
  | 92 => ⟨S4x96x224x224, .f32⟩
  | 93 => ⟨S4x96x224x224, .f32⟩
  | 94 => ⟨S4x96x224x224, .f32⟩
  | 95 => ⟨S1x96x1x1, .f32⟩
  | 96 => ⟨S4x96x224x224, .f32⟩
  | 97 => ⟨S4x96x224x224, .f32⟩
  | 98 => ⟨S4x96x224x224, .f32⟩
  | 99 => ⟨S1x96x1x1, .f32⟩
  | 100 => ⟨S4x96x224x224, .f32⟩
  | 101 => ⟨S4x96x224x224, .f32⟩
  | 102 => ⟨S4x96x224x224, .f32⟩
  | 103 => ⟨S4x96x224x224, .f32⟩
  | 104 => ⟨S4x96x224x224, .f32⟩
  | 105 => ⟨S1x96x1x1, .f32⟩
  | 106 => ⟨S4x96x224x224, .f32⟩
  | 107 => ⟨S4x96x224x224, .f32⟩
  | 108 => ⟨S4x96x224x224, .f32⟩
  | 109 => ⟨S4x96x224x224, .f32⟩
  | 110 => ⟨S4x96x224x224, .f32⟩
  | 111 => ⟨S_, .f32⟩
  | 112 => ⟨S4x96x224x224, .f32⟩
  | 113 => ⟨S4x96x224x224, .f32⟩
  | 114 => ⟨S1x96x1x1, .f32⟩
  | 115 => ⟨S4x96x224x224, .f32⟩
  | 116 => ⟨S4x96x224x224, .f32⟩
  | 117 => ⟨S_, .i32⟩
  | 118 => ⟨S_, .f32⟩
  | 119 => ⟨S4x96x226x226, .f32⟩
  | 120 => ⟨S4x96x224x224, .f32⟩
  | 121 => ⟨S96x96x1x1, .f32⟩
  | 122 => ⟨S96x96, .f32⟩
  | 123 => ⟨S96x4x224x224, .f32⟩
  | 124 => ⟨S4x96x224x224, .f32⟩
  | 125 => ⟨S4x96x224x224, .f32⟩
  | 126 => ⟨S96x96x1x1, .f32⟩
  | 127 => ⟨S96x96, .f32⟩
  | _ => ⟨S4x96x224x224, .f32⟩

abbrev hbmTy0_2 (i : Nat) : BufTy := match i % 128 with
  | 0 => ⟨S96x4x224x224, .f32⟩
  | 1 => ⟨S4x96x224x224, .f32⟩
  | 2 => ⟨S4x96x224x224, .f32⟩
  | 3 => ⟨S4x96x224x224, .f32⟩
  | 4 => ⟨S96x96x1x1, .f32⟩
  | 5 => ⟨S96x96, .f32⟩
  | 6 => ⟨S96x4x224x224, .f32⟩
  | 7 => ⟨S4x96x224x224, .f32⟩
  | 8 => ⟨S4x96x224x224, .f32⟩
  | 9 => ⟨S4x96x224x224, .f32⟩
  | 10 => ⟨S96x96x1x1, .f32⟩
  | 11 => ⟨S96x96, .f32⟩
  | 12 => ⟨S96x4x224x224, .f32⟩
  | 13 => ⟨S4x96x224x224, .f32⟩
  | 14 => ⟨S4x96x224x224, .f32⟩
  | 15 => ⟨S4x96x224x224, .f32⟩
  | 16 => ⟨S96x96x1x1, .f32⟩
  | 17 => ⟨S96x96, .f32⟩
  | 18 => ⟨S96x4x224x224, .f32⟩
  | 19 => ⟨S4x96x224x224, .f32⟩
  | 20 => ⟨S4x96x224x224, .f32⟩
  | 21 => ⟨S4x96x224x224, .f32⟩
  | 22 => ⟨S96x96x1x1, .f32⟩
  | 23 => ⟨S96x96, .f32⟩
  | 24 => ⟨S96x4x224x224, .f32⟩
  | 25 => ⟨S4x96x224x224, .f32⟩
  | 26 => ⟨S4x96x224x224, .f32⟩
  | 27 => ⟨S4x96x224x224, .f32⟩
  | 28 => ⟨S96x96x1x1, .f32⟩
  | 29 => ⟨S96x96, .f32⟩
  | 30 => ⟨S96x4x224x224, .f32⟩
  | 31 => ⟨S4x96x224x224, .f32⟩
  | 32 => ⟨S4x96x224x224, .f32⟩
  | 33 => ⟨S4x96x224x224, .f32⟩
  | 34 => ⟨S96x96x1x1, .f32⟩
  | 35 => ⟨S96x96, .f32⟩
  | 36 => ⟨S96x4x224x224, .f32⟩
  | 37 => ⟨S4x96x224x224, .f32⟩
  | 38 => ⟨S4x96x224x224, .f32⟩
  | 39 => ⟨S4x96x224x224, .f32⟩
  | 40 => ⟨S96x96x1x1, .f32⟩
  | 41 => ⟨S96x96, .f32⟩
  | 42 => ⟨S96x4x224x224, .f32⟩
  | 43 => ⟨S4x96x224x224, .f32⟩
  | 44 => ⟨S4x96x224x224, .f32⟩
  | 45 => ⟨S1x96x1x1, .f32⟩
  | 46 => ⟨S4x96x224x224, .f32⟩
  | 47 => ⟨S4x96x224x224, .f32⟩
  | 48 => ⟨S_, .i32⟩
  | 49 => ⟨S_, .f32⟩
  | 50 => ⟨S4x96x226x226, .f32⟩
  | 51 => ⟨S4x96x224x224, .f32⟩
  | 52 => ⟨S96x96x1x1, .f32⟩
  | 53 => ⟨S96x96, .f32⟩
  | 54 => ⟨S96x4x224x224, .f32⟩
  | 55 => ⟨S4x96x224x224, .f32⟩
  | 56 => ⟨S4x96x224x224, .f32⟩
  | 57 => ⟨S96x96x1x1, .f32⟩
  | 58 => ⟨S96x96, .f32⟩
  | 59 => ⟨S96x4x224x224, .f32⟩
  | 60 => ⟨S4x96x224x224, .f32⟩
  | 61 => ⟨S4x96x224x224, .f32⟩
  | 62 => ⟨S4x96x224x224, .f32⟩
  | 63 => ⟨S96x96x1x1, .f32⟩
  | 64 => ⟨S96x96, .f32⟩
  | 65 => ⟨S96x4x224x224, .f32⟩
  | 66 => ⟨S4x96x224x224, .f32⟩
  | 67 => ⟨S4x96x224x224, .f32⟩
  | 68 => ⟨S4x96x224x224, .f32⟩
  | 69 => ⟨S96x96x1x1, .f32⟩
  | 70 => ⟨S96x96, .f32⟩
  | 71 => ⟨S96x4x224x224, .f32⟩
  | 72 => ⟨S4x96x224x224, .f32⟩
  | 73 => ⟨S4x96x224x224, .f32⟩
  | 74 => ⟨S4x96x224x224, .f32⟩
  | 75 => ⟨S96x96x1x1, .f32⟩
  | 76 => ⟨S96x96, .f32⟩
  | 77 => ⟨S96x4x224x224, .f32⟩
  | 78 => ⟨S4x96x224x224, .f32⟩
  | 79 => ⟨S4x96x224x224, .f32⟩
  | 80 => ⟨S4x96x224x224, .f32⟩
  | 81 => ⟨S96x96x1x1, .f32⟩
  | 82 => ⟨S96x96, .f32⟩
  | 83 => ⟨S96x4x224x224, .f32⟩
  | 84 => ⟨S4x96x224x224, .f32⟩
  | 85 => ⟨S4x96x224x224, .f32⟩
  | 86 => ⟨S4x96x224x224, .f32⟩
  | 87 => ⟨S96x96x1x1, .f32⟩
  | 88 => ⟨S96x96, .f32⟩
  | 89 => ⟨S96x4x224x224, .f32⟩
  | 90 => ⟨S4x96x224x224, .f32⟩
  | 91 => ⟨S4x96x224x224, .f32⟩
  | 92 => ⟨S4x96x224x224, .f32⟩
  | 93 => ⟨S96x96x1x1, .f32⟩
  | 94 => ⟨S96x96, .f32⟩
  | 95 => ⟨S96x4x224x224, .f32⟩
  | 96 => ⟨S4x96x224x224, .f32⟩
  | 97 => ⟨S4x96x224x224, .f32⟩
  | 98 => ⟨S4x96x224x224, .f32⟩
  | 99 => ⟨S96x96x1x1, .f32⟩
  | 100 => ⟨S96x96, .f32⟩
  | 101 => ⟨S96x4x224x224, .f32⟩
  | 102 => ⟨S4x96x224x224, .f32⟩
  | 103 => ⟨S4x96x224x224, .f32⟩
  | 104 => ⟨S1x96x1x1, .f32⟩
  | 105 => ⟨S4x96x224x224, .f32⟩
  | 106 => ⟨S4x96x224x224, .f32⟩
  | 107 => ⟨S4x96x224x224, .f32⟩
  | 108 => ⟨S4x96x224x224, .f32⟩
  | 109 => ⟨S1x96x1x1, .f32⟩
  | 110 => ⟨S4x96x224x224, .f32⟩
  | 111 => ⟨S4x96x224x224, .f32⟩
  | 112 => ⟨S4x96x224x224, .f32⟩
  | 113 => ⟨S1x96x1x1, .f32⟩
  | 114 => ⟨S4x96x224x224, .f32⟩
  | 115 => ⟨S4x96x224x224, .f32⟩
  | 116 => ⟨S4x96x224x224, .f32⟩
  | 117 => ⟨S4x96x224x224, .f32⟩
  | 118 => ⟨S4x96x224x224, .f32⟩
  | 119 => ⟨S1x96x1x1, .f32⟩
  | 120 => ⟨S4x96x224x224, .f32⟩
  | 121 => ⟨S4x96x224x224, .f32⟩
  | 122 => ⟨S4x96x224x224, .f32⟩
  | 123 => ⟨S4x96x224x224, .f32⟩
  | 124 => ⟨S4x96x224x224, .f32⟩
  | 125 => ⟨S_, .f32⟩
  | 126 => ⟨S4x96x224x224, .f32⟩
  | 127 => ⟨S4x96x224x224, .f32⟩
  | _ => ⟨S4x96x224x224, .f32⟩

abbrev hbmTy0_3 (i : Nat) : BufTy := match i % 128 with
  | 0 => ⟨S1x96x1x1, .f32⟩
  | 1 => ⟨S4x96x224x224, .f32⟩
  | 2 => ⟨S4x96x224x224, .f32⟩
  | 3 => ⟨S_, .i32⟩
  | 4 => ⟨S_, .f32⟩
  | 5 => ⟨S4x96x226x226, .f32⟩
  | 6 => ⟨S4x96x224x224, .f32⟩
  | 7 => ⟨S96x96x1x1, .f32⟩
  | 8 => ⟨S96x96, .f32⟩
  | 9 => ⟨S96x4x224x224, .f32⟩
  | 10 => ⟨S4x96x224x224, .f32⟩
  | 11 => ⟨S4x96x224x224, .f32⟩
  | 12 => ⟨S96x96x1x1, .f32⟩
  | 13 => ⟨S96x96, .f32⟩
  | 14 => ⟨S96x4x224x224, .f32⟩
  | 15 => ⟨S4x96x224x224, .f32⟩
  | 16 => ⟨S4x96x224x224, .f32⟩
  | 17 => ⟨S4x96x224x224, .f32⟩
  | 18 => ⟨S96x96x1x1, .f32⟩
  | 19 => ⟨S96x96, .f32⟩
  | 20 => ⟨S96x4x224x224, .f32⟩
  | 21 => ⟨S4x96x224x224, .f32⟩
  | 22 => ⟨S4x96x224x224, .f32⟩
  | 23 => ⟨S4x96x224x224, .f32⟩
  | 24 => ⟨S96x96x1x1, .f32⟩
  | 25 => ⟨S96x96, .f32⟩
  | 26 => ⟨S96x4x224x224, .f32⟩
  | 27 => ⟨S4x96x224x224, .f32⟩
  | 28 => ⟨S4x96x224x224, .f32⟩
  | 29 => ⟨S4x96x224x224, .f32⟩
  | 30 => ⟨S96x96x1x1, .f32⟩
  | 31 => ⟨S96x96, .f32⟩
  | 32 => ⟨S96x4x224x224, .f32⟩
  | 33 => ⟨S4x96x224x224, .f32⟩
  | 34 => ⟨S4x96x224x224, .f32⟩
  | 35 => ⟨S4x96x224x224, .f32⟩
  | 36 => ⟨S96x96x1x1, .f32⟩
  | 37 => ⟨S96x96, .f32⟩
  | 38 => ⟨S96x4x224x224, .f32⟩
  | 39 => ⟨S4x96x224x224, .f32⟩
  | 40 => ⟨S4x96x224x224, .f32⟩
  | 41 => ⟨S4x96x224x224, .f32⟩
  | 42 => ⟨S96x96x1x1, .f32⟩
  | 43 => ⟨S96x96, .f32⟩
  | 44 => ⟨S96x4x224x224, .f32⟩
  | 45 => ⟨S4x96x224x224, .f32⟩
  | 46 => ⟨S4x96x224x224, .f32⟩
  | 47 => ⟨S4x96x224x224, .f32⟩
  | 48 => ⟨S96x96x1x1, .f32⟩
  | 49 => ⟨S96x96, .f32⟩
  | 50 => ⟨S96x4x224x224, .f32⟩
  | 51 => ⟨S4x96x224x224, .f32⟩
  | 52 => ⟨S4x96x224x224, .f32⟩
  | 53 => ⟨S4x96x224x224, .f32⟩
  | 54 => ⟨S96x96x1x1, .f32⟩
  | 55 => ⟨S96x96, .f32⟩
  | 56 => ⟨S96x4x224x224, .f32⟩
  | 57 => ⟨S4x96x224x224, .f32⟩
  | 58 => ⟨S4x96x224x224, .f32⟩
  | 59 => ⟨S1x96x1x1, .f32⟩
  | 60 => ⟨S4x96x224x224, .f32⟩
  | 61 => ⟨S4x96x224x224, .f32⟩
  | 62 => ⟨S_, .i32⟩
  | 63 => ⟨S_, .f32⟩
  | 64 => ⟨S4x96x226x226, .f32⟩
  | 65 => ⟨S4x96x224x224, .f32⟩
  | 66 => ⟨S96x96x1x1, .f32⟩
  | 67 => ⟨S96x96, .f32⟩
  | 68 => ⟨S96x4x224x224, .f32⟩
  | 69 => ⟨S4x96x224x224, .f32⟩
  | 70 => ⟨S4x96x224x224, .f32⟩
  | 71 => ⟨S96x96x1x1, .f32⟩
  | 72 => ⟨S96x96, .f32⟩
  | 73 => ⟨S96x4x224x224, .f32⟩
  | 74 => ⟨S4x96x224x224, .f32⟩
  | 75 => ⟨S4x96x224x224, .f32⟩
  | 76 => ⟨S4x96x224x224, .f32⟩
  | 77 => ⟨S96x96x1x1, .f32⟩
  | 78 => ⟨S96x96, .f32⟩
  | 79 => ⟨S96x4x224x224, .f32⟩
  | 80 => ⟨S4x96x224x224, .f32⟩
  | 81 => ⟨S4x96x224x224, .f32⟩
  | 82 => ⟨S4x96x224x224, .f32⟩
  | 83 => ⟨S96x96x1x1, .f32⟩
  | 84 => ⟨S96x96, .f32⟩
  | 85 => ⟨S96x4x224x224, .f32⟩
  | 86 => ⟨S4x96x224x224, .f32⟩
  | 87 => ⟨S4x96x224x224, .f32⟩
  | 88 => ⟨S4x96x224x224, .f32⟩
  | 89 => ⟨S96x96x1x1, .f32⟩
  | 90 => ⟨S96x96, .f32⟩
  | 91 => ⟨S96x4x224x224, .f32⟩
  | 92 => ⟨S4x96x224x224, .f32⟩
  | 93 => ⟨S4x96x224x224, .f32⟩
  | 94 => ⟨S4x96x224x224, .f32⟩
  | 95 => ⟨S96x96x1x1, .f32⟩
  | 96 => ⟨S96x96, .f32⟩
  | 97 => ⟨S96x4x224x224, .f32⟩
  | 98 => ⟨S4x96x224x224, .f32⟩
  | 99 => ⟨S4x96x224x224, .f32⟩
  | 100 => ⟨S4x96x224x224, .f32⟩
  | 101 => ⟨S96x96x1x1, .f32⟩
  | 102 => ⟨S96x96, .f32⟩
  | 103 => ⟨S96x4x224x224, .f32⟩
  | 104 => ⟨S4x96x224x224, .f32⟩
  | 105 => ⟨S4x96x224x224, .f32⟩
  | 106 => ⟨S4x96x224x224, .f32⟩
  | 107 => ⟨S96x96x1x1, .f32⟩
  | 108 => ⟨S96x96, .f32⟩
  | 109 => ⟨S96x4x224x224, .f32⟩
  | 110 => ⟨S4x96x224x224, .f32⟩
  | 111 => ⟨S4x96x224x224, .f32⟩
  | 112 => ⟨S4x96x224x224, .f32⟩
  | 113 => ⟨S96x96x1x1, .f32⟩
  | 114 => ⟨S96x96, .f32⟩
  | 115 => ⟨S96x4x224x224, .f32⟩
  | 116 => ⟨S4x96x224x224, .f32⟩
  | 117 => ⟨S4x96x224x224, .f32⟩
  | 118 => ⟨S1x96x1x1, .f32⟩
  | 119 => ⟨S4x96x224x224, .f32⟩
  | 120 => ⟨S4x96x224x224, .f32⟩
  | 121 => ⟨S4x96x224x224, .f32⟩
  | 122 => ⟨S4x96x224x224, .f32⟩
  | 123 => ⟨S1x96x1x1, .f32⟩
  | 124 => ⟨S4x96x224x224, .f32⟩
  | 125 => ⟨S4x96x224x224, .f32⟩
  | 126 => ⟨S4x96x224x224, .f32⟩
  | 127 => ⟨S1x96x1x1, .f32⟩
  | _ => ⟨S4x96x224x224, .f32⟩

abbrev hbmTy0_4 (i : Nat) : BufTy := match i % 128 with
  | 0 => ⟨S4x96x224x224, .f32⟩
  | 1 => ⟨S4x96x224x224, .f32⟩
  | 2 => ⟨S4x96x224x224, .f32⟩
  | 3 => ⟨S4x96x224x224, .f32⟩
  | 4 => ⟨S4x96x224x224, .f32⟩
  | 5 => ⟨S1x96x1x1, .f32⟩
  | 6 => ⟨S4x96x224x224, .f32⟩
  | 7 => ⟨S4x96x224x224, .f32⟩
  | 8 => ⟨S4x96x224x224, .f32⟩
  | 9 => ⟨S4x96x224x224, .f32⟩
  | 10 => ⟨S4x96x224x224, .f32⟩
  | 11 => ⟨S_, .f32⟩
  | 12 => ⟨S4x96x224x224, .f32⟩
  | 13 => ⟨S4x96x224x224, .f32⟩
  | 14 => ⟨S4x384x224x224, .f32⟩
  | 15 => ⟨S96x384, .f32⟩
  | 16 => ⟨S96x4x224x224, .f32⟩
  | 17 => ⟨S4x96x224x224, .f32⟩
  | 18 => ⟨S1x96x1x1, .f32⟩
  | 19 => ⟨S4x96x224x224, .f32⟩
  | 20 => ⟨S4x96x224x224, .f32⟩
  | _ => ⟨S4x96x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x96x224x224, .f32⟩

abbrev bufTy : (tb : Table) → Fin (tcTables nBuf tb) → BufTy
  | .hbm, ⟨i, _⟩ => hbmTy i
  | _, _ => ⟨S4x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_call0_v0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_call1_cst : Ref sig .tc := ⟨.hbm, 97, rfl⟩
abbrev main_call1_v0 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_c_3 : Ref sig .tc := ⟨.hbm, 103, rfl⟩
abbrev main_call2_v0 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_c_4 : Ref sig .tc := ⟨.hbm, 162, rfl⟩
abbrev main_call3_v0 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_call4_cst : Ref sig .tc := ⟨.hbm, 239, rfl⟩
abbrev main_call4_v0 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_c_5 : Ref sig .tc := ⟨.hbm, 245, rfl⟩
abbrev main_call5_v0 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_v224 : Ref sig .tc := ⟨.hbm, 250, rfl⟩
abbrev main_v225 : Ref sig .tc := ⟨.hbm, 251, rfl⟩
abbrev main_v226 : Ref sig .tc := ⟨.hbm, 252, rfl⟩
abbrev main_v227 : Ref sig .tc := ⟨.hbm, 253, rfl⟩
abbrev main_v228 : Ref sig .tc := ⟨.hbm, 254, rfl⟩
abbrev main_v229 : Ref sig .tc := ⟨.hbm, 255, rfl⟩
abbrev main_v230 : Ref sig .tc := ⟨.hbm, 256, rfl⟩
abbrev main_v231 : Ref sig .tc := ⟨.hbm, 257, rfl⟩
abbrev main_v232 : Ref sig .tc := ⟨.hbm, 258, rfl⟩
abbrev main_v233 : Ref sig .tc := ⟨.hbm, 259, rfl⟩
abbrev main_v234 : Ref sig .tc := ⟨.hbm, 260, rfl⟩
abbrev main_v235 : Ref sig .tc := ⟨.hbm, 261, rfl⟩
abbrev main_v236 : Ref sig .tc := ⟨.hbm, 262, rfl⟩
abbrev main_v237 : Ref sig .tc := ⟨.hbm, 263, rfl⟩
abbrev main_v238 : Ref sig .tc := ⟨.hbm, 264, rfl⟩
abbrev main_v239 : Ref sig .tc := ⟨.hbm, 265, rfl⟩
abbrev main_v240 : Ref sig .tc := ⟨.hbm, 266, rfl⟩
abbrev main_v241 : Ref sig .tc := ⟨.hbm, 267, rfl⟩
abbrev main_v242 : Ref sig .tc := ⟨.hbm, 268, rfl⟩
abbrev main_v243 : Ref sig .tc := ⟨.hbm, 269, rfl⟩
abbrev main_v244 : Ref sig .tc := ⟨.hbm, 270, rfl⟩
abbrev main_v245 : Ref sig .tc := ⟨.hbm, 271, rfl⟩
abbrev main_v246 : Ref sig .tc := ⟨.hbm, 272, rfl⟩
abbrev main_v247 : Ref sig .tc := ⟨.hbm, 273, rfl⟩
abbrev main_v248 : Ref sig .tc := ⟨.hbm, 274, rfl⟩
abbrev main_v249 : Ref sig .tc := ⟨.hbm, 275, rfl⟩
abbrev main_v250 : Ref sig .tc := ⟨.hbm, 276, rfl⟩
abbrev main_v251 : Ref sig .tc := ⟨.hbm, 277, rfl⟩
abbrev main_v252 : Ref sig .tc := ⟨.hbm, 278, rfl⟩
abbrev main_v253 : Ref sig .tc := ⟨.hbm, 279, rfl⟩
abbrev main_v254 : Ref sig .tc := ⟨.hbm, 280, rfl⟩
abbrev main_v255 : Ref sig .tc := ⟨.hbm, 281, rfl⟩
abbrev main_v256 : Ref sig .tc := ⟨.hbm, 282, rfl⟩
abbrev main_v257 : Ref sig .tc := ⟨.hbm, 283, rfl⟩
abbrev main_v258 : Ref sig .tc := ⟨.hbm, 284, rfl⟩
abbrev main_v259 : Ref sig .tc := ⟨.hbm, 285, rfl⟩
abbrev main_v260 : Ref sig .tc := ⟨.hbm, 286, rfl⟩
abbrev main_v261 : Ref sig .tc := ⟨.hbm, 287, rfl⟩
abbrev main_v262 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_v270 : Ref sig .tc := ⟨.hbm, 296, rfl⟩
abbrev main_v271 : Ref sig .tc := ⟨.hbm, 297, rfl⟩
abbrev main_v272 : Ref sig .tc := ⟨.hbm, 298, rfl⟩
abbrev main_v273 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩
abbrev main_v277 : Ref sig .tc := ⟨.hbm, 303, rfl⟩
abbrev main_c_6 : Ref sig .tc := ⟨.hbm, 304, rfl⟩
abbrev main_call6_v0 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_v287 : Ref sig .tc := ⟨.hbm, 315, rfl⟩
abbrev main_v288 : Ref sig .tc := ⟨.hbm, 316, rfl⟩
abbrev main_v289 : Ref sig .tc := ⟨.hbm, 317, rfl⟩
abbrev main_v290 : Ref sig .tc := ⟨.hbm, 318, rfl⟩
abbrev main_v291 : Ref sig .tc := ⟨.hbm, 319, rfl⟩
abbrev main_v292 : Ref sig .tc := ⟨.hbm, 320, rfl⟩
abbrev main_v293 : Ref sig .tc := ⟨.hbm, 321, rfl⟩
abbrev main_v294 : Ref sig .tc := ⟨.hbm, 322, rfl⟩
abbrev main_v295 : Ref sig .tc := ⟨.hbm, 323, rfl⟩
abbrev main_v296 : Ref sig .tc := ⟨.hbm, 324, rfl⟩
abbrev main_v297 : Ref sig .tc := ⟨.hbm, 325, rfl⟩
abbrev main_v298 : Ref sig .tc := ⟨.hbm, 326, rfl⟩
abbrev main_v299 : Ref sig .tc := ⟨.hbm, 327, rfl⟩
abbrev main_v300 : Ref sig .tc := ⟨.hbm, 328, rfl⟩
abbrev main_v301 : Ref sig .tc := ⟨.hbm, 329, rfl⟩
abbrev main_v302 : Ref sig .tc := ⟨.hbm, 330, rfl⟩
abbrev main_v303 : Ref sig .tc := ⟨.hbm, 331, rfl⟩
abbrev main_v304 : Ref sig .tc := ⟨.hbm, 332, rfl⟩
abbrev main_v305 : Ref sig .tc := ⟨.hbm, 333, rfl⟩
abbrev main_v306 : Ref sig .tc := ⟨.hbm, 334, rfl⟩
abbrev main_v307 : Ref sig .tc := ⟨.hbm, 335, rfl⟩
abbrev main_v308 : Ref sig .tc := ⟨.hbm, 336, rfl⟩
abbrev main_v309 : Ref sig .tc := ⟨.hbm, 337, rfl⟩
abbrev main_v310 : Ref sig .tc := ⟨.hbm, 338, rfl⟩
abbrev main_v311 : Ref sig .tc := ⟨.hbm, 339, rfl⟩
abbrev main_v312 : Ref sig .tc := ⟨.hbm, 340, rfl⟩
abbrev main_v313 : Ref sig .tc := ⟨.hbm, 341, rfl⟩
abbrev main_v314 : Ref sig .tc := ⟨.hbm, 342, rfl⟩
abbrev main_v315 : Ref sig .tc := ⟨.hbm, 343, rfl⟩
abbrev main_v316 : Ref sig .tc := ⟨.hbm, 344, rfl⟩
abbrev main_v317 : Ref sig .tc := ⟨.hbm, 345, rfl⟩
abbrev main_v318 : Ref sig .tc := ⟨.hbm, 346, rfl⟩
abbrev main_v319 : Ref sig .tc := ⟨.hbm, 347, rfl⟩
abbrev main_v320 : Ref sig .tc := ⟨.hbm, 348, rfl⟩
abbrev main_v321 : Ref sig .tc := ⟨.hbm, 349, rfl⟩
abbrev main_v322 : Ref sig .tc := ⟨.hbm, 350, rfl⟩
abbrev main_v323 : Ref sig .tc := ⟨.hbm, 351, rfl⟩
abbrev main_v324 : Ref sig .tc := ⟨.hbm, 352, rfl⟩
abbrev main_v325 : Ref sig .tc := ⟨.hbm, 353, rfl⟩
abbrev main_v326 : Ref sig .tc := ⟨.hbm, 354, rfl⟩
abbrev main_v327 : Ref sig .tc := ⟨.hbm, 355, rfl⟩
abbrev main_v328 : Ref sig .tc := ⟨.hbm, 356, rfl⟩
abbrev main_v329 : Ref sig .tc := ⟨.hbm, 357, rfl⟩
abbrev main_v330 : Ref sig .tc := ⟨.hbm, 358, rfl⟩
abbrev main_v331 : Ref sig .tc := ⟨.hbm, 359, rfl⟩
abbrev main_v332 : Ref sig .tc := ⟨.hbm, 360, rfl⟩
abbrev main_v333 : Ref sig .tc := ⟨.hbm, 361, rfl⟩
abbrev main_v334 : Ref sig .tc := ⟨.hbm, 362, rfl⟩
abbrev main_v335 : Ref sig .tc := ⟨.hbm, 363, rfl⟩
abbrev main_v336 : Ref sig .tc := ⟨.hbm, 364, rfl⟩
abbrev main_v337 : Ref sig .tc := ⟨.hbm, 365, rfl⟩
abbrev main_v338 : Ref sig .tc := ⟨.hbm, 366, rfl⟩
abbrev main_v339 : Ref sig .tc := ⟨.hbm, 367, rfl⟩
abbrev main_v340 : Ref sig .tc := ⟨.hbm, 368, rfl⟩
abbrev main_v341 : Ref sig .tc := ⟨.hbm, 369, rfl⟩
abbrev main_v342 : Ref sig .tc := ⟨.hbm, 370, rfl⟩
abbrev main_v343 : Ref sig .tc := ⟨.hbm, 371, rfl⟩
abbrev main_v344 : Ref sig .tc := ⟨.hbm, 372, rfl⟩
abbrev main_v345 : Ref sig .tc := ⟨.hbm, 373, rfl⟩
abbrev main_v346 : Ref sig .tc := ⟨.hbm, 374, rfl⟩
abbrev main_v347 : Ref sig .tc := ⟨.hbm, 375, rfl⟩
abbrev main_v348 : Ref sig .tc := ⟨.hbm, 376, rfl⟩
abbrev main_v349 : Ref sig .tc := ⟨.hbm, 377, rfl⟩
abbrev main_v350 : Ref sig .tc := ⟨.hbm, 378, rfl⟩
abbrev main_v351 : Ref sig .tc := ⟨.hbm, 379, rfl⟩
abbrev main_v352 : Ref sig .tc := ⟨.hbm, 380, rfl⟩
abbrev main_call7_cst : Ref sig .tc := ⟨.hbm, 381, rfl⟩
abbrev main_call7_v0 : Ref sig .tc := ⟨.hbm, 382, rfl⟩
abbrev main_v353 : Ref sig .tc := ⟨.hbm, 383, rfl⟩
abbrev main_v354 : Ref sig .tc := ⟨.hbm, 384, rfl⟩
abbrev main_v355 : Ref sig .tc := ⟨.hbm, 385, rfl⟩
abbrev main_v356 : Ref sig .tc := ⟨.hbm, 386, rfl⟩
abbrev main_c_7 : Ref sig .tc := ⟨.hbm, 387, rfl⟩
abbrev main_call8_v0 : Ref sig .tc := ⟨.hbm, 388, rfl⟩
abbrev main_v357 : Ref sig .tc := ⟨.hbm, 389, rfl⟩
abbrev main_v358 : Ref sig .tc := ⟨.hbm, 390, rfl⟩
abbrev main_v359 : Ref sig .tc := ⟨.hbm, 391, rfl⟩
abbrev main_v360 : Ref sig .tc := ⟨.hbm, 392, rfl⟩
abbrev main_v361 : Ref sig .tc := ⟨.hbm, 393, rfl⟩
abbrev main_v362 : Ref sig .tc := ⟨.hbm, 394, rfl⟩
abbrev main_v363 : Ref sig .tc := ⟨.hbm, 395, rfl⟩
abbrev main_v364 : Ref sig .tc := ⟨.hbm, 396, rfl⟩
abbrev main_v365 : Ref sig .tc := ⟨.hbm, 397, rfl⟩
abbrev main_v366 : Ref sig .tc := ⟨.hbm, 398, rfl⟩
abbrev main_v367 : Ref sig .tc := ⟨.hbm, 399, rfl⟩
abbrev main_v368 : Ref sig .tc := ⟨.hbm, 400, rfl⟩
abbrev main_v369 : Ref sig .tc := ⟨.hbm, 401, rfl⟩
abbrev main_v370 : Ref sig .tc := ⟨.hbm, 402, rfl⟩
abbrev main_v371 : Ref sig .tc := ⟨.hbm, 403, rfl⟩
abbrev main_v372 : Ref sig .tc := ⟨.hbm, 404, rfl⟩
abbrev main_v373 : Ref sig .tc := ⟨.hbm, 405, rfl⟩
abbrev main_v374 : Ref sig .tc := ⟨.hbm, 406, rfl⟩
abbrev main_v375 : Ref sig .tc := ⟨.hbm, 407, rfl⟩
abbrev main_v376 : Ref sig .tc := ⟨.hbm, 408, rfl⟩
abbrev main_v377 : Ref sig .tc := ⟨.hbm, 409, rfl⟩
abbrev main_v378 : Ref sig .tc := ⟨.hbm, 410, rfl⟩
abbrev main_v379 : Ref sig .tc := ⟨.hbm, 411, rfl⟩
abbrev main_v380 : Ref sig .tc := ⟨.hbm, 412, rfl⟩
abbrev main_v381 : Ref sig .tc := ⟨.hbm, 413, rfl⟩
abbrev main_v382 : Ref sig .tc := ⟨.hbm, 414, rfl⟩
abbrev main_v383 : Ref sig .tc := ⟨.hbm, 415, rfl⟩
abbrev main_v384 : Ref sig .tc := ⟨.hbm, 416, rfl⟩
abbrev main_v385 : Ref sig .tc := ⟨.hbm, 417, rfl⟩
abbrev main_v386 : Ref sig .tc := ⟨.hbm, 418, rfl⟩
abbrev main_v387 : Ref sig .tc := ⟨.hbm, 419, rfl⟩
abbrev main_v388 : Ref sig .tc := ⟨.hbm, 420, rfl⟩
abbrev main_v389 : Ref sig .tc := ⟨.hbm, 421, rfl⟩
abbrev main_v390 : Ref sig .tc := ⟨.hbm, 422, rfl⟩
abbrev main_v391 : Ref sig .tc := ⟨.hbm, 423, rfl⟩
abbrev main_v392 : Ref sig .tc := ⟨.hbm, 424, rfl⟩
abbrev main_v393 : Ref sig .tc := ⟨.hbm, 425, rfl⟩
abbrev main_v394 : Ref sig .tc := ⟨.hbm, 426, rfl⟩
abbrev main_v395 : Ref sig .tc := ⟨.hbm, 427, rfl⟩
abbrev main_v396 : Ref sig .tc := ⟨.hbm, 428, rfl⟩
abbrev main_v397 : Ref sig .tc := ⟨.hbm, 429, rfl⟩
abbrev main_v398 : Ref sig .tc := ⟨.hbm, 430, rfl⟩
abbrev main_v399 : Ref sig .tc := ⟨.hbm, 431, rfl⟩
abbrev main_v400 : Ref sig .tc := ⟨.hbm, 432, rfl⟩
abbrev main_v401 : Ref sig .tc := ⟨.hbm, 433, rfl⟩
abbrev main_v402 : Ref sig .tc := ⟨.hbm, 434, rfl⟩
abbrev main_v403 : Ref sig .tc := ⟨.hbm, 435, rfl⟩
abbrev main_v404 : Ref sig .tc := ⟨.hbm, 436, rfl⟩
abbrev main_v405 : Ref sig .tc := ⟨.hbm, 437, rfl⟩
abbrev main_v406 : Ref sig .tc := ⟨.hbm, 438, rfl⟩
abbrev main_v407 : Ref sig .tc := ⟨.hbm, 439, rfl⟩
abbrev main_v408 : Ref sig .tc := ⟨.hbm, 440, rfl⟩
abbrev main_v409 : Ref sig .tc := ⟨.hbm, 441, rfl⟩
abbrev main_v410 : Ref sig .tc := ⟨.hbm, 442, rfl⟩
abbrev main_v411 : Ref sig .tc := ⟨.hbm, 443, rfl⟩
abbrev main_v412 : Ref sig .tc := ⟨.hbm, 444, rfl⟩
abbrev main_v413 : Ref sig .tc := ⟨.hbm, 445, rfl⟩
abbrev main_c_8 : Ref sig .tc := ⟨.hbm, 446, rfl⟩
abbrev main_call9_v0 : Ref sig .tc := ⟨.hbm, 447, rfl⟩
abbrev main_v414 : Ref sig .tc := ⟨.hbm, 448, rfl⟩
abbrev main_v415 : Ref sig .tc := ⟨.hbm, 449, rfl⟩
abbrev main_v416 : Ref sig .tc := ⟨.hbm, 450, rfl⟩
abbrev main_v417 : Ref sig .tc := ⟨.hbm, 451, rfl⟩
abbrev main_v418 : Ref sig .tc := ⟨.hbm, 452, rfl⟩
abbrev main_v419 : Ref sig .tc := ⟨.hbm, 453, rfl⟩
abbrev main_v420 : Ref sig .tc := ⟨.hbm, 454, rfl⟩
abbrev main_v421 : Ref sig .tc := ⟨.hbm, 455, rfl⟩
abbrev main_v422 : Ref sig .tc := ⟨.hbm, 456, rfl⟩
abbrev main_v423 : Ref sig .tc := ⟨.hbm, 457, rfl⟩
abbrev main_v424 : Ref sig .tc := ⟨.hbm, 458, rfl⟩
abbrev main_v425 : Ref sig .tc := ⟨.hbm, 459, rfl⟩
abbrev main_v426 : Ref sig .tc := ⟨.hbm, 460, rfl⟩
abbrev main_v427 : Ref sig .tc := ⟨.hbm, 461, rfl⟩
abbrev main_v428 : Ref sig .tc := ⟨.hbm, 462, rfl⟩
abbrev main_v429 : Ref sig .tc := ⟨.hbm, 463, rfl⟩
abbrev main_v430 : Ref sig .tc := ⟨.hbm, 464, rfl⟩
abbrev main_v431 : Ref sig .tc := ⟨.hbm, 465, rfl⟩
abbrev main_v432 : Ref sig .tc := ⟨.hbm, 466, rfl⟩
abbrev main_v433 : Ref sig .tc := ⟨.hbm, 467, rfl⟩
abbrev main_v434 : Ref sig .tc := ⟨.hbm, 468, rfl⟩
abbrev main_v435 : Ref sig .tc := ⟨.hbm, 469, rfl⟩
abbrev main_v436 : Ref sig .tc := ⟨.hbm, 470, rfl⟩
abbrev main_v437 : Ref sig .tc := ⟨.hbm, 471, rfl⟩
abbrev main_v438 : Ref sig .tc := ⟨.hbm, 472, rfl⟩
abbrev main_v439 : Ref sig .tc := ⟨.hbm, 473, rfl⟩
abbrev main_v440 : Ref sig .tc := ⟨.hbm, 474, rfl⟩
abbrev main_v441 : Ref sig .tc := ⟨.hbm, 475, rfl⟩
abbrev main_v442 : Ref sig .tc := ⟨.hbm, 476, rfl⟩
abbrev main_v443 : Ref sig .tc := ⟨.hbm, 477, rfl⟩
abbrev main_v444 : Ref sig .tc := ⟨.hbm, 478, rfl⟩
abbrev main_v445 : Ref sig .tc := ⟨.hbm, 479, rfl⟩
abbrev main_v446 : Ref sig .tc := ⟨.hbm, 480, rfl⟩
abbrev main_v447 : Ref sig .tc := ⟨.hbm, 481, rfl⟩
abbrev main_v448 : Ref sig .tc := ⟨.hbm, 482, rfl⟩
abbrev main_v449 : Ref sig .tc := ⟨.hbm, 483, rfl⟩
abbrev main_v450 : Ref sig .tc := ⟨.hbm, 484, rfl⟩
abbrev main_v451 : Ref sig .tc := ⟨.hbm, 485, rfl⟩
abbrev main_v452 : Ref sig .tc := ⟨.hbm, 486, rfl⟩
abbrev main_v453 : Ref sig .tc := ⟨.hbm, 487, rfl⟩
abbrev main_v454 : Ref sig .tc := ⟨.hbm, 488, rfl⟩
abbrev main_v455 : Ref sig .tc := ⟨.hbm, 489, rfl⟩
abbrev main_v456 : Ref sig .tc := ⟨.hbm, 490, rfl⟩
abbrev main_v457 : Ref sig .tc := ⟨.hbm, 491, rfl⟩
abbrev main_v458 : Ref sig .tc := ⟨.hbm, 492, rfl⟩
abbrev main_v459 : Ref sig .tc := ⟨.hbm, 493, rfl⟩
abbrev main_v460 : Ref sig .tc := ⟨.hbm, 494, rfl⟩
abbrev main_v461 : Ref sig .tc := ⟨.hbm, 495, rfl⟩
abbrev main_v462 : Ref sig .tc := ⟨.hbm, 496, rfl⟩
abbrev main_v463 : Ref sig .tc := ⟨.hbm, 497, rfl⟩
abbrev main_v464 : Ref sig .tc := ⟨.hbm, 498, rfl⟩
abbrev main_v465 : Ref sig .tc := ⟨.hbm, 499, rfl⟩
abbrev main_v466 : Ref sig .tc := ⟨.hbm, 500, rfl⟩
abbrev main_v467 : Ref sig .tc := ⟨.hbm, 501, rfl⟩
abbrev main_v468 : Ref sig .tc := ⟨.hbm, 502, rfl⟩
abbrev main_v469 : Ref sig .tc := ⟨.hbm, 503, rfl⟩
abbrev main_v470 : Ref sig .tc := ⟨.hbm, 504, rfl⟩
abbrev main_v471 : Ref sig .tc := ⟨.hbm, 505, rfl⟩
abbrev main_v472 : Ref sig .tc := ⟨.hbm, 506, rfl⟩
abbrev main_v473 : Ref sig .tc := ⟨.hbm, 507, rfl⟩
abbrev main_v474 : Ref sig .tc := ⟨.hbm, 508, rfl⟩
abbrev main_v475 : Ref sig .tc := ⟨.hbm, 509, rfl⟩
abbrev main_v476 : Ref sig .tc := ⟨.hbm, 510, rfl⟩
abbrev main_v477 : Ref sig .tc := ⟨.hbm, 511, rfl⟩
abbrev main_v478 : Ref sig .tc := ⟨.hbm, 512, rfl⟩
abbrev main_v479 : Ref sig .tc := ⟨.hbm, 513, rfl⟩
abbrev main_v480 : Ref sig .tc := ⟨.hbm, 514, rfl⟩
abbrev main_v481 : Ref sig .tc := ⟨.hbm, 515, rfl⟩
abbrev main_v482 : Ref sig .tc := ⟨.hbm, 516, rfl⟩
abbrev main_v483 : Ref sig .tc := ⟨.hbm, 517, rfl⟩
abbrev main_v484 : Ref sig .tc := ⟨.hbm, 518, rfl⟩
abbrev main_v485 : Ref sig .tc := ⟨.hbm, 519, rfl⟩
abbrev main_v486 : Ref sig .tc := ⟨.hbm, 520, rfl⟩
abbrev main_v487 : Ref sig .tc := ⟨.hbm, 521, rfl⟩
abbrev main_v488 : Ref sig .tc := ⟨.hbm, 522, rfl⟩
abbrev main_call10_cst : Ref sig .tc := ⟨.hbm, 523, rfl⟩
abbrev main_call10_v0 : Ref sig .tc := ⟨.hbm, 524, rfl⟩
abbrev main_v489 : Ref sig .tc := ⟨.hbm, 525, rfl⟩
abbrev main_v490 : Ref sig .tc := ⟨.hbm, 526, rfl⟩
abbrev main_v491 : Ref sig .tc := ⟨.hbm, 527, rfl⟩
abbrev main_v492 : Ref sig .tc := ⟨.hbm, 528, rfl⟩
abbrev main_v493 : Ref sig .tc := ⟨.hbm, 529, rfl⟩
abbrev main_v494 : Ref sig .tc := ⟨.hbm, 530, rfl⟩
abbrev main_v495 : Ref sig .tc := ⟨.hbm, 531, rfl⟩
abbrev main_v496 : Ref sig .tc := ⟨.hbm, 532, rfl⟩

abbrev nD : Nat := 1
abbrev τ : Topo := Topo.v7x

variable {F : FTy → Type} [FloatOps F]
-- ==== Proof.Bodies.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
@[expose] public section
set_option maxRecDepth 16384
noncomputable section
namespace Cert.KernelIdeal.Conv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
variable {F : FTy → Type} [FloatOps F]
local notation "𝕄" => MT nD τ sig Unit (Elt F) ℕ (UR sig nD τ) ℕ

/-- Putting back a window in which only a sub-window was replaced is replacing the sub-window. -/
theorem put_updateSlice {s : Shape} {α : Type} (x : s.Idx → α) (off size : Fin s.rank → ℕ) (inb : ∀ a, off a + size a ≤ s.size a)
    (off2 : Fin s.rank → ℕ) (size2 : Fin s.rank → ℕ) (w : ((a : Fin s.rank) → Fin (size2 a)) → α)
    (hs : (⟨s.rank, size⟩ : Shape).Slices off2 ⟨s.rank, size2⟩) (off3 : Fin s.rank → ℕ) (h3 : ∀ a, off3 a = off a + off2 a) :
    VecWindow.put x off size (updateSlice (s := ⟨s.rank, size⟩) (u := ⟨s.rank, size2⟩) (VecWindow.window x off size inb) w off2 hs)
      = VecWindow.put x off3 size2 w := by
  funext y
  have hb : ∀ a : Fin s.rank, off2 a + size2 a ≤ size a := fun a => hs.2 a
  unfold VecWindow.put
  by_cases hin : ∀ a, off a ≤ (y a).val ∧ (y a).val < off a + size a
  · rw [dif_pos hin]
    unfold updateSlice
    by_cases h2 : ∀ a, off3 a ≤ (y a).val ∧ (y a).val < off3 a + size2 a
    · rw [dif_pos h2, dif_pos]
      · refine congrArg w (funext fun a => Fin.ext ?_)
        have := h3 a
        show (y a).val - off a - off2 a = (y a).val - off3 a
        omega
      · intro a
        have := h3 a; have := h2 a
        show off2 a ≤ (y a).val - off a ∧ (y a).val - off a < off2 a + size2 a
        omega
    · rw [dif_neg h2, dif_neg]
      · refine congrArg x (funext fun a => Fin.ext ?_)
        have := hin a
        show off a + 1 * ((y a).val - off a) = (y a).val
        omega
      · intro hc
        apply h2
        intro a
        have := h3 a; have := hin a
        have hc' : off2 a ≤ (y a).val - off a ∧ (y a).val - off a < off2 a + size2 a := hc a
        omega
  · rw [dif_neg hin, dif_neg]
    intro hc
    apply hin
    intro a
    have := h3 a; have := hc a; have := hb a
    omega

/-- Storing a window read back and changed on a sub-window puts the change at the sub-window. -/
theorem read_writes_sub {κ : Kind} {sp : Space} {s : Shape} {e : EltTy} (v : View sig κ sp s e) (f : v.ty.Contents (Elt F)) {off off' size : Fin s.rank → ℕ}
    (inb : ∀ a, off a + size a ≤ s.size a) (off2 size2 : Fin s.rank → ℕ) (w : ((a : Fin s.rank) → Fin (size2 a)) → Elt F e)
    (hs : (⟨s.rank, size⟩ : Shape).Slices off2 ⟨s.rank, size2⟩) (off3 : Fin s.rank → ℕ) (h : off = off') (h3 : ∀ a, off3 a = off' a + off2 a)
    (L : List (View.Piece (Elt F) s e)) :
    v.read (Elt F) (v.writes (Elt F) f (⟨Rect.unit off size inb, updateSlice (s := ⟨s.rank, size⟩) (u := ⟨s.rank, size2⟩)
        (v.readAt (Elt F) (Rect.unit off size inb).toLoadRect (v.writes (Elt F) f L)) w off2 hs⟩ :: L))
      = VecWindow.put (v.read (Elt F) (v.writes (Elt F) f L)) off3 size2 w := by
  subst h
  rw [View.read_writes_cons_put v f inb _ L rfl, View.readAt_unit v _ inb rfl inb]
  exact put_updateSlice _ off size inb off2 size2 w hs off3 h3

/-- Zeroing the first and the last row of the padded image. -/
def zeroRows (x8 : Vec F S226x226x96 .bf16) : Vec F S226x226x96 .bf16 :=
  VecWindow.put (VecWindow.put x8 ![0, 0, 0] S1x226x96.size (k2_pay2 (F := F))) ![225, 0, 0] S1x226x96.size (k2_pay3 (F := F))

/-- Filling the rows of block `j` of the padded image: zeros in the first and the last column, the block of the image between. -/
def fillRows (j : ℕ) (x2 : Vec F S1x32x224x96 .bf16) (x8 : Vec F S226x226x96 .bf16) : Vec F S226x226x96 .bf16 :=
  VecWindow.put (VecWindow.put (VecWindow.put x8 ![32 * j + 1, 0, 0] S32x1x96.size (k2_pay5 (F := F)))
      ![32 * j + 1, 225, 0] S32x1x96.size (k2_pay6 (F := F))) ![32 * j + 1, 1, 0] S32x224x96.size
    (k2_pay7 (View.ld x2 (Rect.unit (s := S1x32x224x96) ![0, 0, 0, 0] S1x32x224x96.size inb_S1x32x224x96_S1x32x224x96_0_0_0_0)))

/-- The tile of a later layer from the blocks the body loads and the window of the padded image. -/
def tileD (x3' : Vec F S1x32x224x1 .f32) (x4 : Vec F S3x3x96x96 .f32) (x5 : Vec F S8x96 .f32) (x6 : Vec F S96x8 .f32) (v24 : Vec F S34x226x96 .bf16) : Vec F S1x32x224x96 .bf16 :=
  let x3 : Vec F S1x32x224x1 .f32 := View.ld x3' (Rect.unit (s := S1x32x224x1) ![0, 0, 0, 0] S1x32x224x1.size inb_S1x32x224x1_S1x32x224x1_0_0_0_0)
  let v12 : Vec F S3x3x96x96 .f32 := View.ld x4 (Rect.unit (s := S3x3x96x96) ![0, 0, 0, 0] S3x3x96x96.size inb_S3x3x96x96_S3x3x96x96_0_0_0_0)
  let v15 : Vec F S96x1 .f32 := View.ld x6 (Rect.unit (s := S96x8) ![0, 0] S96x1.size inb_S96x8_S96x1_0_0)
  let v121 : Vec F S1x96 .f32 := View.ld x5 (Rect.unit (s := S8x96) ![1, 0] S1x96.size inb_S8x96_S1x96_1_0)
  let v124 : Vec F S1x96 .f32 := View.ld x5 (Rect.unit (s := S8x96) ![2, 0] S1x96.size inb_S8x96_S1x96_2_0)
  k2_pay8 (k2_pay29 (k2_pay10 v12) (k2_pay11 v12 v15) (k2_pay14 v24) (k2_pay25 (k2_pay10 v12) (k2_pay12 v24) (k2_pay13 v24) (k2_pay14 v24) (k2_pay17 v12 v24) (k2_pay19 v24) (k2_pay20 v12)) (k2_pay26 (k2_pay11 v12 v15) (k2_pay12 v24) (k2_pay13 v24) (k2_pay14 v24) (k2_pay18 v12 v15 v24) (k2_pay19 v24)) (k2_pay27 (k2_pay13 v24)) (k2_pay28 (k2_pay10 v12)) x3 v121 v124)

/-- The tile of the first layer from the blocks the body loads and the window of the padded image. -/
def tileS (x3' : Vec F S1x32x224x1 .f32) (x4 : Vec F S3x3x96x96 .f32) (x5 : Vec F S8x96 .f32) (v17 : Vec F S34x226x96 .bf16) : Vec F S1x32x224x96 .bf16 :=
  let x3 : Vec F S1x32x224x1 .f32 := View.ld x3' (Rect.unit (s := S1x32x224x1) ![0, 0, 0, 0] S1x32x224x1.size inb_S1x32x224x1_S1x32x224x1_0_0_0_0)
  let v12 : Vec F S3x3x96x96 .f32 := View.ld x4 (Rect.unit (s := S3x3x96x96) ![0, 0, 0, 0] S3x3x96x96.size inb_S3x3x96x96_S3x3x96x96_0_0_0_0)
  let v78 : Vec F S1x96 .f32 := View.ld x5 (Rect.unit (s := S8x96) ![0, 0] S1x96.size inb_S8x96_S1x96_0_0)
  let v81 : Vec F S1x96 .f32 := View.ld x5 (Rect.unit (s := S8x96) ![1, 0] S1x96.size inb_S8x96_S1x96_1_0)
  k1_pay15 (k1_pay8 v12) (k1_pay9 v17) (k1_pay10 v17) (k1_pay11 v17) (k1_pay12 v12 v17) (k1_pay13 v17) (k1_pay14 v12) x3 v78 v81

/-- The three stores that fill a block leave the block filled, whatever stores came before. -/
theorem fill_read {κ : Kind} {sp : Space} (v : View sig κ sp S226x226x96 .bf16) (f : v.ty.Contents (Elt F)) (L : List (View.Piece (Elt F) S226x226x96 .bf16)) (j : ℕ)
    {o2 o4 o6 : Fin 3 → ℕ} (i2 : ∀ a, o2 a + S32x2x96.size a ≤ S226x226x96.size a) (i4 : ∀ a, o4 a + S32x2x96.size a ≤ S226x226x96.size a) (i6 : ∀ a, o6 a + S32x226x96.size a ≤ S226x226x96.size a)
    (e2 : o2 = ![32 * j + 1, 0, 0]) (e4 : o4 = ![32 * j + 1, 224, 0]) (e6 : o6 = ![32 * j + 1, 0, 0])
    (s2 : S32x2x96.Slices ![0, 0, 0] S32x1x96) (s4 : S32x2x96.Slices ![0, 1, 0] S32x1x96) (s6 : S32x226x96.Slices ![0, 1, 0] S32x224x96)
    (x2 : Vec F S1x32x224x96 .bf16) (old4 : Vec F S32x2x96 .bf16)
    (h4 : old4 = v.readAt (Elt F) (Rect.unit (s := S226x226x96) o4 S32x2x96.size i4).toLoadRect (v.writes (Elt F) f
        (⟨Rect.unit (s := S226x226x96) o2 S32x2x96.size i2, updateSlice (v.readAt (Elt F) (Rect.unit (s := S226x226x96) o2 S32x2x96.size i2).toLoadRect (v.writes (Elt F) f L)) (k2_pay5 (F := F)) ![0, 0, 0] s2⟩ :: L))) :
    v.read (Elt F) (v.writes (Elt F) f (⟨Rect.unit (s := S226x226x96) o6 S32x226x96.size i6, updateSlice (v.readAt (Elt F) (Rect.unit (s := S226x226x96) o6 S32x226x96.size i6).toLoadRect (v.writes (Elt F) f
          (⟨Rect.unit (s := S226x226x96) o4 S32x2x96.size i4, updateSlice old4 (k2_pay6 (F := F)) ![0, 1, 0] s4⟩ ::
           ⟨Rect.unit (s := S226x226x96) o2 S32x2x96.size i2, updateSlice (v.readAt (Elt F) (Rect.unit (s := S226x226x96) o2 S32x2x96.size i2).toLoadRect (v.writes (Elt F) f L)) (k2_pay5 (F := F)) ![0, 0, 0] s2⟩ :: L)))
        (k2_pay7 (View.ld x2 (Rect.unit (s := S1x32x224x96) ![0, 0, 0, 0] S1x32x224x96.size inb_S1x32x224x96_S1x32x224x96_0_0_0_0))) ![0, 1, 0] s6⟩ ::
          ⟨Rect.unit (s := S226x226x96) o4 S32x2x96.size i4, updateSlice old4 (k2_pay6 (F := F)) ![0, 1, 0] s4⟩ ::
           ⟨Rect.unit (s := S226x226x96) o2 S32x2x96.size i2, updateSlice (v.readAt (Elt F) (Rect.unit (s := S226x226x96) o2 S32x2x96.size i2).toLoadRect (v.writes (Elt F) f L)) (k2_pay5 (F := F)) ![0, 0, 0] s2⟩ :: L))
      = fillRows j x2 (v.read (Elt F) (v.writes (Elt F) f L)) := by
  subst h4
  refine (read_writes_sub v f (size := S32x226x96.size) i6 ![0, 1, 0] S32x224x96.size _ s6 ![32 * j + 1, 1, 0] e6 (by intro a; fin_cases a <;> rfl) _).trans ?_
  have q2 := read_writes_sub v f (size := S32x2x96.size) i2 ![0, 0, 0] S32x1x96.size (k2_pay5 (F := F)) s2 ![32 * j + 1, 0, 0] e2 (by intro a; fin_cases a <;> rfl) L
  have q4 := read_writes_sub v f (size := S32x2x96.size) i4 ![0, 1, 0] S32x1x96.size (k2_pay6 (F := F)) s4 ![32 * j + 1, 225, 0] e4 (by intro a; fin_cases a <;> rfl) (⟨Rect.unit (s := S226x226x96) o2 S32x2x96.size i2, updateSlice (v.readAt (Elt F) (Rect.unit (s := S226x226x96) o2 S32x2x96.size i2).toLoadRect (v.writes (Elt F) f L)) (k2_pay5 (F := F)) ![0, 0, 0] s2⟩ :: L)
  refine (congrArg (fun (z : Vec F S226x226x96 .bf16) => VecWindow.put z ![32 * j + 1, 1, 0] S32x224x96.size (k2_pay7 (View.ld x2 (Rect.unit (s := S1x32x224x96) ![0, 0, 0, 0] S1x32x224x96.size inb_S1x32x224x96_S1x32x224x96_0_0_0_0))))
    (q4.trans (congrArg (fun (z : Vec F S226x226x96 .bf16) => VecWindow.put z ![32 * j + 1, 225, 0] S32x1x96.size (k2_pay6 (F := F))) q2))).trans ?_
  unfold fillRows
  rfl

/-- The store at the first columns does not reach the last columns. -/
theorem skip_first {κ : Kind} {sp : Space} (v : View sig κ sp S226x226x96 .bf16) (f : v.ty.Contents (Elt F)) (L : List (View.Piece (Elt F) S226x226x96 .bf16)) (j : ℕ)
    {o2 o4 : Fin 3 → ℕ} (i2 : ∀ a, o2 a + S32x2x96.size a ≤ S226x226x96.size a) (i4 : ∀ a, o4 a + S32x2x96.size a ≤ S226x226x96.size a)
    (e2 : o2 = ![32 * j + 1, 0, 0]) (e4 : o4 = ![32 * j + 1, 224, 0]) (w : S32x2x96.Idx → Elt F .bf16) :
    v.readAt (Elt F) (Rect.unit (s := S226x226x96) o4 S32x2x96.size i4).toLoadRect (v.writes (Elt F) f L)
      = v.readAt (Elt F) (Rect.unit (s := S226x226x96) o4 S32x2x96.size i4).toLoadRect (v.writes (Elt F) f (⟨Rect.unit (s := S226x226x96) o2 S32x2x96.size i2, w⟩ :: L)) := by
  rw [View.readAt_unit v _ i4 rfl i4, View.readAt_unit v _ i4 rfl i4, View.read_writes_cons_put v f i2 w L rfl]
  refine (VecWindow.window_put_of_disjoint _ _ _ _ _ _ _ (1 : Fin 3) (.inr ?_)).symm
  subst e2 e4
  show (0 : ℕ) + 2 ≤ 224
  omega

section
variable (c : Dev nD) (E : Set ℕ) (arg2 : Memref sig .tc .vmem S1x32x224x96 .bf16) (harg2 : arg2.IsWhole) (arg3 : Memref sig .tc .vmem S1x32x224x1 .f32) (harg3 : arg3.IsWhole) (arg4 : Memref sig .tc .vmem S3x3x96x96 .f32) (harg4 : arg4.IsWhole) (arg5 : Memref sig .tc .vmem S8x96 .f32) (harg5 : arg5.IsWhole) (arg6 : Memref sig .tc .vmem S96x8 .f32) (harg6 : arg6.IsWhole) (arg7 : Memref sig .tc .vmem S1x32x224x96 .bf16) (harg7 : arg7.IsWhole) (arg8 : Memref sig .tc .vmem S226x226x96 .bf16) (harg8 : arg8.IsWhole)
    (x2 : Vec F S1x32x224x96 .bf16) (x3 : Vec F S1x32x224x1 .f32) (x4 : Vec F S3x3x96x96 .f32) (x5 : Vec F S8x96 .f32) (x6 : Vec F S96x8 .f32) (x7 : Vec F S1x32x224x96 .bf16) (x8 : Vec F S226x226x96 .bf16)

/-- The windows the convolution body is given, with what each holds. -/
def held (y7 : Vec F S1x32x224x96 .bf16) (y8 : Vec F S226x226x96 .bf16) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg7 fullShare y7 ∗ owns (c : Thread nD τ) arg8 fullShare y8)

/-- The buffers behind the windows, the inputs' as they are, are what the windows hold. -/
theorem held_back (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F))
    (y7 : Vec F S1x32x224x96 .bf16) (y8 : Vec F S226x226x96 .bf16) (h7 : arg7.view.read (Elt F) f7 = y7) (h8 : arg8.view.read (Elt F) f8 = y8) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)) : sProp 𝕄)
      ⊢ held c arg2 arg3 arg4 arg5 arg6 arg7 arg8 (arg2.view.read (Elt F) f2) (arg3.view.read (Elt F) f3) (arg4.view.read (Elt F) f4) (arg5.view.read (Elt F) f5) (arg6.view.read (Elt F) f6) y7 y8 := by
  unfold held owns
  iintro ⟨H2, H3, H4, H5, H6, H7, H8⟩
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; exact h7
                  iexact H7
  iexists f8; isplitr; · ipureintro; exact h8
  iexact H8

/-- What holds of the buffers behind the windows holds of what the windows hold. -/
theorem held_open {G Q : sProp 𝕄} (h : ∀ (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)), arg2.view.read (Elt F) f2 = x2 → arg3.view.read (Elt F) f3 = x3 → arg4.view.read (Elt F) f4 = x4 → arg5.view.read (Elt F) f5 = x5 → arg6.view.read (Elt F) f6 = x6 → arg7.view.read (Elt F) f7 = x7 → arg8.view.read (Elt F) f8 = x8 →
      iprop(((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)) ∗ Q) ⊢ G) :
    iprop(held c arg2 arg3 arg4 arg5 arg6 arg7 arg8 x2 x3 x4 x5 x6 x7 x8 ∗ Q) ⊢ G := by
  unfold held owns
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩⟩, HQ⟩
  iapply (h f2 f3 f4 f5 f6 f7 f8 h2 h3 h4 h5 h6 h7 h8)
  isplitr [HQ]
  rotate_left
  · iexact HQ
  isplitl [H2]; · iexact H2
  isplitl [H3]; · iexact H3
  isplitl [H4]; · iexact H4
  isplitl [H5]; · iexact H5
  isplitl [H6]; · iexact H6
  isplitl [H7]; · iexact H7
  iexact H8

set_option maxHeartbeats 1000000 in
/-- At the first step of an image the body zeroes the border rows, fills the first block, and stores no tile. -/
theorem first_2 (i : grid2.Coords)
    (h1 : Scalar.cmpi .ne (Scalar.extui (Scalar.cmpi .eq (BitVec.ofNat 32 (i 1).val) 0#32) : BitVec 32) 0#32 = 1#1) (h2 : k2_cond2 i = 1#1) (h3 : ¬ k2_cond3 i = 1#1)
    (K : PUnit → sProp 𝕄) :
    iprop(held c arg2 arg3 arg4 arg5 arg6 arg7 arg8 x2 x3 x4 x5 x6 x7 x8 ∗ (held c arg2 arg3 arg4 arg5 arg6 arg7 arg8 x2 x3 x4 x5 x6
        x7 (fillRows (i 1).val x2 (zeroRows x8)) -∗ K ⟨⟩))
      ⊢ wp frame (wpE (defs₀ (F := F)) Variants.none c none) E (cc2__conv_body i arg2 harg2 arg3 harg3 arg4 harg4 arg5 harg5 arg6 harg6 arg7 harg7 arg8 harg8) K := by
  simp only [cc2__conv_body_eq_skeleton]; unfold cc2__conv_body_skel
  refine held_open c arg2 arg3 arg4 arg5 arg6 arg7 arg8 x2 x3 x4 x5 x6 x7 x8 ?_
  intro f2 f3 f4 f5 f6 f7 f8 e2 e3 e4 e5 e6 e7 e8
  subst e2 e3 e4 e5 e6 e7 e8
  iintro ⟨⟨H2, H3, H4, H5, H6, H7, H8⟩, Hk⟩
  sl_exec (disch := first | exact h1 | exact h2 | exact h3)
  sl_step
  iapply Hk
  iapply (held_back c arg2 arg3 arg4 arg5 arg6 arg7 arg8 f2 f3 f4 f5 f6 _ _ _ _ ?_ ?_)
  rotate_left 2
  · isplitl [H2]; · iexact H2
    isplitl [H3]; · iexact H3
    isplitl [H4]; · iexact H4
    isplitl [H5]; · iexact H5
    isplitl [H6]; · iexact H6
    isplitl [H7]; · iexact H7
    iexact H8
  · rfl
  · delta first_2.sl.H8_4 first_2.sl.H8_3
    refine (fill_read arg8.view f8 first_2.sl.H8_2 (i 1).val (k2_off2_inb i h2) (k2_off4_inb i h2) (k2_off6_inb i h2) (k2_off2_eq i) (k2_off4_eq i) (k2_off6_eq i) _ _ _ (View.read (Elt F) arg2.view f2) _ rfl).trans ?_
    refine congrArg (fillRows _ _) ?_
    delta first_2.sl.H8_2
    refine (View.read_writes_cons_put arg8.view f8 inb_S226x226x96_S1x226x96_225_0_0 (k2_pay3 (F := F)) _ rfl).trans ?_
    refine (congrArg (fun (z : Vec F S226x226x96 .bf16) => VecWindow.put z ![225, 0, 0] S1x226x96.size (k2_pay3 (F := F))) (View.read_writes_cons_put arg8.view f8 inb_S226x226x96_S1x226x96_0_0_0 (k2_pay2 (F := F)) [] rfl)).trans ?_
    rfl

set_option maxHeartbeats 1000000 in
/-- At a middle step of an image the body fills a block and stores the tile before it. -/
theorem mid_2 (i : grid2.Coords)
    (h1 : ¬ Scalar.cmpi .ne (Scalar.extui (Scalar.cmpi .eq (BitVec.ofNat 32 (i 1).val) 0#32) : BitVec 32) 0#32 = 1#1) (h2 : k2_cond2 i = 1#1) (h3 : k2_cond3 i = 1#1)
    (K : PUnit → sProp 𝕄) :
    iprop(held c arg2 arg3 arg4 arg5 arg6 arg7 arg8 x2 x3 x4 x5 x6 x7 x8 ∗ (held c arg2 arg3 arg4 arg5 arg6 arg7 arg8 x2 x3 x4 x5 x6
        (tileD x3 x4 x5 x6 (View.ld (fillRows (i 1).val x2 x8) (Rect.unit (s := S226x226x96) (k2_off7 i) S34x226x96.size (k2_off7_inb i h3)))) (fillRows (i 1).val x2 x8) -∗ K ⟨⟩))
      ⊢ wp frame (wpE (defs₀ (F := F)) Variants.none c none) E (cc2__conv_body i arg2 harg2 arg3 harg3 arg4 harg4 arg5 harg5 arg6 harg6 arg7 harg7 arg8 harg8) K := by
  simp only [cc2__conv_body_eq_skeleton]; unfold cc2__conv_body_skel
  refine held_open c arg2 arg3 arg4 arg5 arg6 arg7 arg8 x2 x3 x4 x5 x6 x7 x8 ?_
  intro f2 f3 f4 f5 f6 f7 f8 e2 e3 e4 e5 e6 e7 e8
  subst e2 e3 e4 e5 e6 e7 e8
  iintro ⟨⟨H2, H3, H4, H5, H6, H7, H8⟩, Hk⟩
  sl_exec (disch := first | exact h1 | exact h2 | exact h3)
  sl_step
  have hscr : View.read (Elt F) arg8.view (arg8.view.writes (Elt F) f8 (mid_2.sl.H8_3 arg2 arg8 i h2 f2 f8)) = fillRows (i 1).val (View.read (Elt F) arg2.view f2) (View.read (Elt F) arg8.view f8) := by
    delta mid_2.sl.H8_3 mid_2.sl.H8_2 mid_2.sl.old
    exact fill_read arg8.view f8 [] (i 1).val (k2_off2_inb i h2) (k2_off4_inb i h2) (k2_off6_inb i h2) (k2_off2_eq i) (k2_off4_eq i) (k2_off6_eq i) _ _ _ (View.read (Elt F) arg2.view f2) _
      (skip_first arg8.view f8 [] (i 1).val (k2_off2_inb i h2) (k2_off4_inb i h2) (k2_off2_eq i) (k2_off4_eq i) _)
  iapply Hk
  iapply (held_back c arg2 arg3 arg4 arg5 arg6 arg7 arg8 f2 f3 f4 f5 f6 _ _ _ _ ?_ ?_)
  rotate_left 2
  · isplitl [H2]; · iexact H2
    isplitl [H3]; · iexact H3
    isplitl [H4]; · iexact H4
    isplitl [H5]; · iexact H5
    isplitl [H6]; · iexact H6
    isplitl [H7]; · iexact H7
    iexact H8
  · refine (View.read_writes_full _ _ _ _ _).trans ?_
    delta mid_2.sl.r_13 mid_2.sl.r_12 mid_2.sl.r_11 mid_2.sl.r_10 mid_2.sl.r_9 mid_2.sl.r_8 mid_2.sl.r_7 mid_2.sl.r_6 mid_2.sl.r_5 mid_2.sl.r_4 mid_2.sl.r_3 mid_2.sl.r_2 mid_2.sl.r_1 mid_2.sl.r
    simp only [View.readAt_eq_ld]
    rw [hscr]
    unfold tileD
    with_reducible rfl
  · exact hscr

set_option maxHeartbeats 1000000 in
/-- At the last step of an image the body stores the last tile. -/
theorem last_2 (i : grid2.Coords)
    (h1 : ¬ Scalar.cmpi .ne (Scalar.extui (Scalar.cmpi .eq (BitVec.ofNat 32 (i 1).val) 0#32) : BitVec 32) 0#32 = 1#1) (h2 : ¬ k2_cond2 i = 1#1) (h3 : k2_cond3 i = 1#1)
    (K : PUnit → sProp 𝕄) :
    iprop(held c arg2 arg3 arg4 arg5 arg6 arg7 arg8 x2 x3 x4 x5 x6 x7 x8 ∗ (held c arg2 arg3 arg4 arg5 arg6 arg7 arg8 x2 x3 x4 x5 x6
        (tileD x3 x4 x5 x6 (View.ld x8 (Rect.unit (s := S226x226x96) (k2_off7 i) S34x226x96.size (k2_off7_inb i h3)))) x8 -∗ K ⟨⟩))
      ⊢ wp frame (wpE (defs₀ (F := F)) Variants.none c none) E (cc2__conv_body i arg2 harg2 arg3 harg3 arg4 harg4 arg5 harg5 arg6 harg6 arg7 harg7 arg8 harg8) K := by
  simp only [cc2__conv_body_eq_skeleton]; unfold cc2__conv_body_skel
  refine held_open c arg2 arg3 arg4 arg5 arg6 arg7 arg8 x2 x3 x4 x5 x6 x7 x8 ?_
  intro f2 f3 f4 f5 f6 f7 f8 e2 e3 e4 e5 e6 e7 e8
  subst e2 e3 e4 e5 e6 e7 e8
  iintro ⟨⟨H2, H3, H4, H5, H6, H7, H8⟩, Hk⟩
  sl_exec (disch := first | exact h1 | exact h2 | exact h3)
  sl_step
  iapply Hk
  iapply (held_back c arg2 arg3 arg4 arg5 arg6 arg7 arg8 f2 f3 f4 f5 f6 _ _ _ _ ?_ ?_)
  rotate_left 2
  · isplitl [H2]; · iexact H2
    isplitl [H3]; · iexact H3
    isplitl [H4]; · iexact H4
    isplitl [H5]; · iexact H5
    isplitl [H6]; · iexact H6
    isplitl [H7]; · iexact H7
    iexact H8
  · refine (View.read_writes_full _ _ _ _ _).trans ?_
    delta last_2.sl.r_13 last_2.sl.r_12 last_2.sl.r_11 last_2.sl.r_10 last_2.sl.r_9 last_2.sl.r_8 last_2.sl.r_7 last_2.sl.r_6 last_2.sl.r_5 last_2.sl.r_4 last_2.sl.r_3 last_2.sl.r_2 last_2.sl.r_1 last_2.sl.r
    simp only [View.readAt_eq_ld]
    unfold tileD
    with_reducible rfl
  · rfl

set_option maxHeartbeats 1000000 in
/-- At the first step of an image the body zeroes the border rows, fills the first block, and stores no tile. -/
theorem first_1 (i : grid1.Coords)
    (h1 : Scalar.cmpi .ne (Scalar.extui (Scalar.cmpi .eq (BitVec.ofNat 32 (i 1).val) 0#32) : BitVec 32) 0#32 = 1#1) (h2 : k1_cond2 i = 1#1) (h3 : ¬ k1_cond3 i = 1#1)
    (K : PUnit → sProp 𝕄) :
    iprop(held c arg2 arg3 arg4 arg5 arg6 arg7 arg8 x2 x3 x4 x5 x6 x7 x8 ∗ (held c arg2 arg3 arg4 arg5 arg6 arg7 arg8 x2 x3 x4 x5 x6
        x7 (fillRows (i 1).val x2 (zeroRows x8)) -∗ K ⟨⟩))
      ⊢ wp frame (wpE (defs₀ (F := F)) Variants.none c none) E (cc1__conv_body i arg2 harg2 arg3 harg3 arg4 harg4 arg5 harg5 arg6 harg6 arg7 harg7 arg8 harg8) K := by
  simp only [cc1__conv_body_eq_skeleton]; unfold cc1__conv_body_skel
  refine held_open c arg2 arg3 arg4 arg5 arg6 arg7 arg8 x2 x3 x4 x5 x6 x7 x8 ?_
  intro f2 f3 f4 f5 f6 f7 f8 e2 e3 e4 e5 e6 e7 e8
  subst e2 e3 e4 e5 e6 e7 e8
  iintro ⟨⟨H2, H3, H4, H5, H6, H7, H8⟩, Hk⟩
  sl_exec (disch := first | exact h1 | exact h2 | exact h3)
  sl_step
  iapply Hk
  iapply (held_back c arg2 arg3 arg4 arg5 arg6 arg7 arg8 f2 f3 f4 f5 f6 _ _ _ _ ?_ ?_)
  rotate_left 2
  · isplitl [H2]; · iexact H2
    isplitl [H3]; · iexact H3
    isplitl [H4]; · iexact H4
    isplitl [H5]; · iexact H5
    isplitl [H6]; · iexact H6
    isplitl [H7]; · iexact H7
    iexact H8
  · rfl
  · delta first_1.sl.H8_4 first_1.sl.H8_3
    refine (fill_read arg8.view f8 first_1.sl.H8_2 (i 1).val (k1_off2_inb i h2) (k1_off4_inb i h2) (k1_off6_inb i h2) (k1_off2_eq i) (k1_off4_eq i) (k1_off6_eq i) _ _ _ (View.read (Elt F) arg2.view f2) _ rfl).trans ?_
    refine congrArg (fillRows _ _) ?_
    delta first_1.sl.H8_2
    refine (View.read_writes_cons_put arg8.view f8 inb_S226x226x96_S1x226x96_225_0_0 (k2_pay3 (F := F)) _ rfl).trans ?_
    refine (congrArg (fun (z : Vec F S226x226x96 .bf16) => VecWindow.put z ![225, 0, 0] S1x226x96.size (k2_pay3 (F := F))) (View.read_writes_cons_put arg8.view f8 inb_S226x226x96_S1x226x96_0_0_0 (k2_pay2 (F := F)) [] rfl)).trans ?_
    rfl

set_option maxHeartbeats 1000000 in
/-- At a middle step of an image the body fills a block and stores the tile before it. -/
theorem mid_1 (i : grid1.Coords)
    (h1 : ¬ Scalar.cmpi .ne (Scalar.extui (Scalar.cmpi .eq (BitVec.ofNat 32 (i 1).val) 0#32) : BitVec 32) 0#32 = 1#1) (h2 : k1_cond2 i = 1#1) (h3 : k1_cond3 i = 1#1)
    (K : PUnit → sProp 𝕄) :
    iprop(held c arg2 arg3 arg4 arg5 arg6 arg7 arg8 x2 x3 x4 x5 x6 x7 x8 ∗ (held c arg2 arg3 arg4 arg5 arg6 arg7 arg8 x2 x3 x4 x5 x6
        (tileS x3 x4 x5 (View.ld (fillRows (i 1).val x2 x8) (Rect.unit (s := S226x226x96) (k1_off7 i) S34x226x96.size (k1_off7_inb i h3)))) (fillRows (i 1).val x2 x8) -∗ K ⟨⟩))
      ⊢ wp frame (wpE (defs₀ (F := F)) Variants.none c none) E (cc1__conv_body i arg2 harg2 arg3 harg3 arg4 harg4 arg5 harg5 arg6 harg6 arg7 harg7 arg8 harg8) K := by
  simp only [cc1__conv_body_eq_skeleton]; unfold cc1__conv_body_skel
  refine held_open c arg2 arg3 arg4 arg5 arg6 arg7 arg8 x2 x3 x4 x5 x6 x7 x8 ?_
  intro f2 f3 f4 f5 f6 f7 f8 e2 e3 e4 e5 e6 e7 e8
  subst e2 e3 e4 e5 e6 e7 e8
  iintro ⟨⟨H2, H3, H4, H5, H6, H7, H8⟩, Hk⟩
  sl_exec (disch := first | exact h1 | exact h2 | exact h3)
  sl_step
  have hscr : View.read (Elt F) arg8.view (arg8.view.writes (Elt F) f8 (mid_1.sl.H8_3 arg2 arg8 i h2 f2 f8)) = fillRows (i 1).val (View.read (Elt F) arg2.view f2) (View.read (Elt F) arg8.view f8) := by
    delta mid_1.sl.H8_3 mid_1.sl.H8_2 mid_1.sl.old
    exact fill_read arg8.view f8 [] (i 1).val (k1_off2_inb i h2) (k1_off4_inb i h2) (k1_off6_inb i h2) (k1_off2_eq i) (k1_off4_eq i) (k1_off6_eq i) _ _ _ (View.read (Elt F) arg2.view f2) _
      (skip_first arg8.view f8 [] (i 1).val (k1_off2_inb i h2) (k1_off4_inb i h2) (k1_off2_eq i) (k1_off4_eq i) _)
  iapply Hk
  iapply (held_back c arg2 arg3 arg4 arg5 arg6 arg7 arg8 f2 f3 f4 f5 f6 _ _ _ _ ?_ ?_)
  rotate_left 2
  · isplitl [H2]; · iexact H2
    isplitl [H3]; · iexact H3
    isplitl [H4]; · iexact H4
    isplitl [H5]; · iexact H5
    isplitl [H6]; · iexact H6
    isplitl [H7]; · iexact H7
    iexact H8
  · refine (View.read_writes_full _ _ _ _ _).trans ?_
    delta mid_1.sl.r_6 mid_1.sl.r_5 mid_1.sl.r_4 mid_1.sl.r_3 mid_1.sl.r_2 mid_1.sl.r_1 mid_1.sl.r
    simp only [View.readAt_eq_ld]
    rw [hscr]
    unfold tileS
    with_reducible rfl
  · exact hscr

set_option maxHeartbeats 1000000 in
/-- At the last step of an image the body stores the last tile. -/
theorem last_1 (i : grid1.Coords)
    (h1 : ¬ Scalar.cmpi .ne (Scalar.extui (Scalar.cmpi .eq (BitVec.ofNat 32 (i 1).val) 0#32) : BitVec 32) 0#32 = 1#1) (h2 : ¬ k1_cond2 i = 1#1) (h3 : k1_cond3 i = 1#1)
    (K : PUnit → sProp 𝕄) :
    iprop(held c arg2 arg3 arg4 arg5 arg6 arg7 arg8 x2 x3 x4 x5 x6 x7 x8 ∗ (held c arg2 arg3 arg4 arg5 arg6 arg7 arg8 x2 x3 x4 x5 x6
        (tileS x3 x4 x5 (View.ld x8 (Rect.unit (s := S226x226x96) (k1_off7 i) S34x226x96.size (k1_off7_inb i h3)))) x8 -∗ K ⟨⟩))
      ⊢ wp frame (wpE (defs₀ (F := F)) Variants.none c none) E (cc1__conv_body i arg2 harg2 arg3 harg3 arg4 harg4 arg5 harg5 arg6 harg6 arg7 harg7 arg8 harg8) K := by
  simp only [cc1__conv_body_eq_skeleton]; unfold cc1__conv_body_skel
  refine held_open c arg2 arg3 arg4 arg5 arg6 arg7 arg8 x2 x3 x4 x5 x6 x7 x8 ?_
  intro f2 f3 f4 f5 f6 f7 f8 e2 e3 e4 e5 e6 e7 e8
  subst e2 e3 e4 e5 e6 e7 e8
  iintro ⟨⟨H2, H3, H4, H5, H6, H7, H8⟩, Hk⟩
  sl_exec (disch := first | exact h1 | exact h2 | exact h3)
  sl_step
  iapply Hk
  iapply (held_back c arg2 arg3 arg4 arg5 arg6 arg7 arg8 f2 f3 f4 f5 f6 _ _ _ _ ?_ ?_)
  rotate_left 2
  · isplitl [H2]; · iexact H2
    isplitl [H3]; · iexact H3
    isplitl [H4]; · iexact H4
    isplitl [H5]; · iexact H5
    isplitl [H6]; · iexact H6
    isplitl [H7]; · iexact H7
    iexact H8
  · refine (View.read_writes_full _ _ _ _ _).trans ?_
    delta last_1.sl.r_6 last_1.sl.r_5 last_1.sl.r_4 last_1.sl.r_3 last_1.sl.r_2 last_1.sl.r_1 last_1.sl.r
    simp only [View.readAt_eq_ld]
    unfold tileS
    with_reducible rfl
  · rfl

end
end Cert.KernelIdeal.Conv
-- ==== Proof.Scratch.lean ====
module
public import proofs.«01_k».proof.Proof.Bodies
public import Idealize.ShloMosaic.Lib.ValueLayout
public import Idealize.ShloMosaic.Lib.Pipeline.ValueKit
@[expose] public section
set_option maxRecDepth 16384
noncomputable section
namespace Cert.KernelIdeal.Conv
open Idealize.ShloMosaic hiding ix0 ix1 ix2 ix3 ix4 ix5
open Idealize.ShloMosaic.ValueIdx
open Cert.KernelIdeal.Gen
variable {F : FTy → Type} [FloatOps F]

/-- The zero of the image's element type. -/
def zbf : Elt F .bf16 := (Scalar.ofBits .bf16 0x0000#16 : F .bf16)

/-- Image `b` of the batch with a border of zeros one wide. -/
def padRow (A : Vec F S4x224x224x96 .bf16) (b : Fin 4) : Vec F S226x226x96 .bf16 := fun y =>
  if h : (1 ≤ (y 0).val ∧ (y 0).val ≤ 224) ∧ 1 ≤ (y 1).val ∧ (y 1).val ≤ 224 then
    A (ix4 b ⟨(y 0).val - 1, by omega⟩ ⟨(y 1).val - 1, by omega⟩ (y 2)) else zbf

/-- The rows of the padded image that tile `j` reads: 34 rows from row `32 j`. -/
def winOf (A : Vec F S4x224x224x96 .bf16) (b : Fin 4) (j : ℕ) : Vec F S34x226x96 .bf16 := fun y =>
  if h : 32 * j + (y 0).val < 226 then padRow A b (ix3 ⟨32 * j + (y 0).val, h⟩ (y 1) (y 2)) else zbf

theorem put_in {s : Shape} {α : Type} (x : s.Idx → α) (off size : Fin s.rank → ℕ) (w : ((a : Fin s.rank) → Fin (size a)) → α) (y : s.Idx)
    (h : ∀ a, off a ≤ (y a).val ∧ (y a).val < off a + size a) :
    VecWindow.put x off size w y = w (Rect.unitLocal (s := s) (off := off) (size := size) y h) := dif_pos h

theorem put_out {s : Shape} {α : Type} (x : s.Idx → α) (off size : Fin s.rank → ℕ) (w : ((a : Fin s.rank) → Fin (size a)) → α) (y : s.Idx)
    (a : Fin s.rank) (h : (y a).val < off a ∨ off a + size a ≤ (y a).val) :
    VecWindow.put x off size w y = x y := dif_neg fun hc => by have := hc a; omega

theorem pay2_eq (y : S1x226x96.Idx) : k2_pay2 (F := F) y = zbf := rfl
theorem pay3_eq (y : S1x226x96.Idx) : k2_pay3 (F := F) y = zbf := rfl
theorem pay5_eq (y : S32x1x96.Idx) : k2_pay5 (F := F) y = zbf := rfl
theorem pay6_eq (y : S32x1x96.Idx) : k2_pay6 (F := F) y = zbf := rfl

theorem pay7_eq (v : Vec F S1x32x224x96 .bf16) (r : Fin 32) (c : Fin 224) (d : Fin 96) :
    k2_pay7 v (ix3 r c d) = v (ix4 0 r c d) := by
  unfold k2_pay7
  refine (congrFun (shapeCast_self _ _) _).trans ?_
  exact shapeCast_1abc_abc_apply _ _ _ _ _

/-- Zeroing the border rows leaves zeros in the first and the last row. -/
theorem zeroRows_border (x8 : Vec F S226x226x96 .bf16) (y : S226x226x96.Idx) (h : (y 0).val = 0 ∨ (y 0).val = 225) :
    zeroRows x8 y = zbf := by
  have h1 : (y 1).val < 226 := (y 1).isLt
  have h2 : (y 2).val < 96 := (y 2).isLt
  unfold zeroRows
  rcases h with h | h
  · rw [put_out _ _ _ _ y 0 (.inl (by show (y 0).val < 225; omega)), put_in _ _ _ _ y]
    · exact pay2_eq _
    · intro a
      fin_cases a
      · show 0 ≤ (y 0).val ∧ (y 0).val < 0 + 1; omega
      · show 0 ≤ (y 1).val ∧ (y 1).val < 0 + 226; omega
      · show 0 ≤ (y 2).val ∧ (y 2).val < 0 + 96; omega
  · rw [put_in _ _ _ _ y]
    · exact pay3_eq _
    · intro a
      fin_cases a
      · show 225 ≤ (y 0).val ∧ (y 0).val < 225 + 1; omega
      · show 0 ≤ (y 1).val ∧ (y 1).val < 0 + 226; omega
      · show 0 ≤ (y 2).val ∧ (y 2).val < 0 + 96; omega

/-- Filling block `j` leaves the other rows as they were. -/
theorem fillRows_out (j : ℕ) (x2 : Vec F S1x32x224x96 .bf16) (x8 : Vec F S226x226x96 .bf16) (y : S226x226x96.Idx)
    (h : (y 0).val < 32 * j + 1 ∨ 32 * j + 1 + 32 ≤ (y 0).val) : fillRows j x2 x8 y = x8 y := by
  unfold fillRows
  rw [put_out _ _ _ _ y 0 h, put_out _ _ _ _ y 0 h, put_out _ _ _ _ y 0 h]

/-- Filling block `j` with the image's block leaves the padded image in the block's rows. -/
theorem fillRows_in (A : Vec F S4x224x224x96 .bf16) (b : Fin 4) (j : ℕ) (hj : j < 7) (x2 : Vec F S1x32x224x96 .bf16)
    (hx : ∀ (r : Fin 32) (c : Fin 224) (d : Fin 96), x2 (ix4 0 r c d) = A (ix4 b ⟨32 * j + r.val, by omega⟩ c d))
    (x8 : Vec F S226x226x96 .bf16) (y : S226x226x96.Idx)
    (h : 32 * j + 1 ≤ (y 0).val ∧ (y 0).val < 32 * j + 1 + 32) : fillRows j x2 x8 y = padRow A b y := by
  have h1 : (y 1).val < 226 := (y 1).isLt
  have h2 : (y 2).val < 96 := (y 2).isLt
  unfold fillRows padRow
  by_cases hc : 1 ≤ (y 1).val ∧ (y 1).val ≤ 224
  · rw [dif_pos ⟨by omega, hc⟩, put_in _ _ _ _ y]
    · have e : (Rect.unitLocal (s := S226x226x96) (off := ![32 * j + 1, 1, 0]) (size := S32x224x96.size) y
          (fun a => by
            fin_cases a
            · exact h
            · show 1 ≤ (y 1).val ∧ (y 1).val < 1 + 224; omega
            · show 0 ≤ (y 2).val ∧ (y 2).val < 0 + 96; omega) : (⟨3, S32x224x96.size⟩ : Shape).Idx)
          = (ix3 ⟨(y 0).val - (32 * j + 1), by omega⟩ ⟨(y 1).val - 1, by omega⟩ (y 2) : S32x224x96.Idx) := by
        funext a
        fin_cases a <;> apply Fin.ext <;> rfl
      refine (congrArg (k2_pay7 _) e).trans ((pay7_eq _ _ _ _).trans ?_)
      refine (congrFun (View.ld_unit_lit _ x2 (by decide)) _).trans ((hx _ _ _).trans ?_)
      congr 1
      congr 1
      apply Fin.ext
      show 32 * j + ((y 0).val - (32 * j + 1)) = (y 0).val - 1
      omega
  · rw [dif_neg (fun hh => hc hh.2), put_out _ _ _ _ y 1 (by show (y 1).val < 1 ∨ 1 + 224 ≤ (y 1).val; omega)]
    by_cases hz : (y 1).val = 0
    · rw [put_out _ _ _ _ y 1 (.inl (by show (y 1).val < 225; omega)), put_in _ _ _ _ y]
      · exact pay5_eq _
      · intro a
        fin_cases a
        · exact h
        · show 0 ≤ (y 1).val ∧ (y 1).val < 0 + 1; omega
        · show 0 ≤ (y 2).val ∧ (y 2).val < 0 + 96; omega
    · rw [put_in _ _ _ _ y]
      · exact pay6_eq _
      · intro a
        fin_cases a
        · exact h
        · show 225 ≤ (y 1).val ∧ (y 1).val < 225 + 1; omega
        · show 0 ≤ (y 2).val ∧ (y 2).val < 0 + 96; omega

/-- What the padded image holds before point `n`: after `j` points of image `b`, its first `32 j + 1` rows and the last row. -/
def Inv (A : Vec F S4x224x224x96 .bf16) (n : ℕ) (x8 : Vec F S226x226x96 .bf16) : Prop :=
  ∀ (b : Fin 4) (j : ℕ), n = 8 * b.val + j → 0 < j → j < 8 → ∀ y : S226x226x96.Idx, ((y 0).val ≤ 32 * j ∨ (y 0).val = 225) → x8 y = padRow A b y

theorem padRow_border (A : Vec F S4x224x224x96 .bf16) (b : Fin 4) (y : S226x226x96.Idx) (h : (y 0).val = 0 ∨ (y 0).val = 225) :
    padRow A b y = zbf := dif_neg fun hc => by omega

theorem Inv_zero (A : Vec F S4x224x224x96 .bf16) (x8 : Vec F S226x226x96 .bf16) : Inv A 0 x8 := fun b j h _ _ => by omega

theorem Inv_first (A : Vec F S4x224x224x96 .bf16) (b : Fin 4) (x2 : Vec F S1x32x224x96 .bf16)
    (hx : ∀ (r : Fin 32) (c : Fin 224) (d : Fin 96), x2 (ix4 0 r c d) = A (ix4 b ⟨32 * 0 + r.val, by omega⟩ c d))
    (x8 : Vec F S226x226x96 .bf16) : Inv A (8 * b.val + 0 + 1) (fillRows 0 x2 (zeroRows x8)) := by
  intro b' j hn hj hj8 y hy
  obtain rfl : b' = b := Fin.ext (by omega)
  obtain rfl : j = 1 := by omega
  by_cases h : 32 * 0 + 1 ≤ (y 0).val ∧ (y 0).val < 32 * 0 + 1 + 32
  · exact fillRows_in A b' 0 (by omega) x2 hx _ y h
  · have hb : (y 0).val = 0 ∨ (y 0).val = 225 := by omega
    rw [fillRows_out _ _ _ y (by omega), zeroRows_border x8 y hb, padRow_border A b' y hb]

theorem Inv_mid (A : Vec F S4x224x224x96 .bf16) (b : Fin 4) (j : ℕ) (hj : 0 < j) (hj7 : j < 7) (x2 : Vec F S1x32x224x96 .bf16)
    (hx : ∀ (r : Fin 32) (c : Fin 224) (d : Fin 96), x2 (ix4 0 r c d) = A (ix4 b ⟨32 * j + r.val, by omega⟩ c d))
    (x8 : Vec F S226x226x96 .bf16) (h8 : Inv A (8 * b.val + j) x8) : Inv A (8 * b.val + j + 1) (fillRows j x2 x8) := by
  intro b' j' hn hj' hj8 y hy
  obtain rfl : b' = b := Fin.ext (by omega)
  obtain rfl : j' = j + 1 := by omega
  by_cases h : 32 * j + 1 ≤ (y 0).val ∧ (y 0).val < 32 * j + 1 + 32
  · exact fillRows_in A b' j hj7 x2 hx _ y h
  · rw [fillRows_out _ _ _ y (by omega)]
    exact h8 b' j rfl hj (by omega) y (by omega)

theorem Inv_last (A : Vec F S4x224x224x96 .bf16) (b : Fin 4) (x8 : Vec F S226x226x96 .bf16) : Inv A (8 * b.val + 7 + 1) x8 := by
  intro b' j' hn hj' hj8 y hy
  omega

/-- The 34 rows tile `j` reads, once they are filled. -/
theorem ld_win (A : Vec F S4x224x224x96 .bf16) (b : Fin 4) (k : ℕ) (hk : k < 7) (x8 : Vec F S226x226x96 .bf16)
    (h8 : ∀ y : S226x226x96.Idx, ((y 0).val ≤ 32 * k + 33) → x8 y = padRow A b y)
    (off : Fin 3 → ℕ) (inb : ∀ a, off a + S34x226x96.size a ≤ S226x226x96.size a) (ho : off = ![32 * k, 0, 0]) :
    View.ld x8 (Rect.unit (s := S226x226x96) off S34x226x96.size inb) = winOf A b k := by
  subst ho
  funext y
  have h0 : (y 0).val < 34 := (y 0).isLt
  rw [View.ld_unit_apply_of x8 _ _ inb y (ix3 ⟨32 * k + (y 0).val, by omega⟩ (y 1) (y 2)) (fun a => by
    fin_cases a
    · rfl
    · exact (Nat.zero_add _).symm
    · exact (Nat.zero_add _).symm)]
  unfold winOf
  rw [dif_pos (show 32 * k + (y 0).val < 226 by omega)]
  exact h8 _ (by show 32 * k + (y 0).val ≤ _; omega)

theorem ld_win_mid (A : Vec F S4x224x224x96 .bf16) (b : Fin 4) (j : ℕ) (hj : 0 < j) (hj7 : j < 7) (x8 : Vec F S226x226x96 .bf16)
    (h8 : Inv A (8 * b.val + j + 1) x8)
    (off : Fin 3 → ℕ) (inb : ∀ a, off a + S34x226x96.size a ≤ S226x226x96.size a) (ho : off = ![32 * max j 1 - 32, 0, 0]) :
    View.ld x8 (Rect.unit (s := S226x226x96) off S34x226x96.size inb) = winOf A b (j - 1) := by
  refine ld_win A b (j - 1) (by omega) x8 (fun y hy => h8 b (j + 1) rfl (by omega) (by omega) y (by omega)) off inb ?_
  rw [ho, Nat.max_eq_left (by omega), show 32 * j - 32 = 32 * (j - 1) by omega]

theorem ld_win_last (A : Vec F S4x224x224x96 .bf16) (b : Fin 4) (x8 : Vec F S226x226x96 .bf16)
    (h8 : Inv A (8 * b.val + 7) x8)
    (off : Fin 3 → ℕ) (inb : ∀ a, off a + S34x226x96.size a ≤ S226x226x96.size a) (ho : off = ![32 * max 7 1 - 32, 0, 0]) :
    View.ld x8 (Rect.unit (s := S226x226x96) off S34x226x96.size inb) = winOf A b 6 :=
  ld_win A b 6 (by omega) x8 (fun y hy => h8 b 7 rfl (by omega) (by omega) y (by omega)) off inb ho
end Cert.KernelIdeal.Conv
-- ==== Proof.Steps.lean ====
module
public import proofs.«01_k».proof.Proof.Scratch
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
@[expose] public section
set_option maxRecDepth 16384
noncomputable section
namespace Cert.KernelIdeal.Conv
open Idealize.ShloMosaic hiding ix0 ix1 ix2 ix3 ix4 ix5
open Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
variable {F : FTy → Type} [FloatOps F]
local notation "𝕄" => MT nD τ sig Unit (Elt F) ℕ (UR sig nD τ) ℕ

/-- The first guard holds exactly at an image's first step, -/
theorem guard1 : ∀ i : grid1.Coords,
    Scalar.cmpi .ne (Scalar.extui (Scalar.cmpi .eq (BitVec.ofNat 32 (i 1).val) 0#32) : BitVec 32) 0#32 = 1#1 ↔ (i 1).val = 0 := by decide +kernel
/-- the second at every step but the last, -/
theorem guard2 : ∀ i : grid1.Coords, k1_cond2 i = 1#1 ↔ (i 1).val < 7 := by decide +kernel
/-- the third at every step but the first. -/
theorem guard3 : ∀ i : grid1.Coords, k1_cond3 i = 1#1 ↔ 0 < (i 1).val := by decide +kernel

/-- The block of the image a step loads, -/
theorem tr0 : ∀ i : grid1.Coords, cc1_transform_0 i = ![(i 0).val, min (i 1).val 6, 0, 0] := by decide +kernel
/-- of the spatial mask, -/
theorem tr1 : ∀ i : grid1.Coords, cc1_transform_1 i = ![(i 0).val, (i 1).val - 1, 0, 0] := by decide +kernel
/-- and the block it stores. -/
theorem tr5 : ∀ i : grid1.Coords, cc1_transform_5 i = ![(i 0).val, (i 1).val - 1, 0, 0] := by decide +kernel

section
variable (c : Dev nD) (arg2 : Memref sig .tc .vmem S1x32x224x96 .bf16) (arg3 : Memref sig .tc .vmem S1x32x224x1 .f32) (arg4 : Memref sig .tc .vmem S3x3x96x96 .f32)
  (arg5 : Memref sig .tc .vmem S8x96 .f32) (arg6 : Memref sig .tc .vmem S96x8 .f32) (arg7 : Memref sig .tc .vmem S1x32x224x96 .bf16) (arg8 : Memref sig .tc .vmem S226x226x96 .bf16)
  (x2 : Vec F S1x32x224x96 .bf16) (x3 : Vec F S1x32x224x1 .f32) (x4 : Vec F S3x3x96x96 .f32) (x5 : Vec F S8x96 .f32) (x6 : Vec F S96x8 .f32)
  (prog : Prog (TpuEff nD τ sig (Elt F) Λ₀ .tc) PUnit) (i : grid1.Coords) (A : Vec F S4x224x224x96 .bf16) (tile : Vec F S34x226x96 .bf16 → Vec F S1x32x224x96 .bf16)

/-- What the body does at step `n`: the padded image's invariant moves one step on, and past an image's first step the output block holds the tile. -/
def Point (n : ℕ) : Prop := ∀ (x7 : Vec F S1x32x224x96 .bf16) (K : PUnit → sProp 𝕄),
    iprop((∃ x8, ⌜Inv A n x8⌝ ∗ held c arg2 arg3 arg4 arg5 arg6 arg7 arg8 x2 x3 x4 x5 x6 x7 x8)
        ∗ ((∃ x8, ⌜Inv A (n + 1) x8⌝ ∗ held c arg2 arg3 arg4 arg5 arg6 arg7 arg8 x2 x3 x4 x5 x6 (if (i 1).val = 0 then x7 else tile (winOf A (i 0) ((i 1).val - 1))) x8) -∗ K ⟨⟩))
      ⊢ wp frame (wpE (defs₀ (F := F)) Variants.none c none) Set.univ prog K

/-- A body does that, if it zeroes the border and fills the first block at an image's first step, fills a block and stores a tile of the rows below at the middle steps,
    and stores a tile at the last. -/
theorem point (hx2 : (h : (i 1).val < 7) → ∀ (r : Fin 32) (p : Fin 224) (d : Fin 96), x2 (ix4 0 r p d) = A (ix4 (i 0) ⟨32 * (i 1).val + r.val, by omega⟩ p d))
    (off : Fin 3 → ℕ) (inb : (i 1).val ≠ 0 → ∀ a, off a + S34x226x96.size a ≤ S226x226x96.size a) (hoff : off = ![32 * max (i 1).val 1 - 32, 0, 0])
    (hfirst : (i 1).val = 0 → ∀ x7 x8 K, iprop(held c arg2 arg3 arg4 arg5 arg6 arg7 arg8 x2 x3 x4 x5 x6 x7 x8 ∗ (held c arg2 arg3 arg4 arg5 arg6 arg7 arg8 x2 x3 x4 x5 x6 x7 (fillRows (i 1).val x2 (zeroRows x8)) -∗ K ⟨⟩))
      ⊢ wp frame (wpE (defs₀ (F := F)) Variants.none c none) Set.univ prog K)
    (hmid : ∀ h : (i 1).val ≠ 0, (i 1).val ≠ 7 → ∀ x7 x8 K, iprop(held c arg2 arg3 arg4 arg5 arg6 arg7 arg8 x2 x3 x4 x5 x6 x7 x8
        ∗ (held c arg2 arg3 arg4 arg5 arg6 arg7 arg8 x2 x3 x4 x5 x6 (tile (View.ld (fillRows (i 1).val x2 x8) (Rect.unit (s := S226x226x96) off S34x226x96.size (inb h)))) (fillRows (i 1).val x2 x8) -∗ K ⟨⟩))
      ⊢ wp frame (wpE (defs₀ (F := F)) Variants.none c none) Set.univ prog K)
    (hlast : ∀ h : (i 1).val ≠ 0, (i 1).val = 7 → ∀ x7 x8 K, iprop(held c arg2 arg3 arg4 arg5 arg6 arg7 arg8 x2 x3 x4 x5 x6 x7 x8
        ∗ (held c arg2 arg3 arg4 arg5 arg6 arg7 arg8 x2 x3 x4 x5 x6 (tile (View.ld x8 (Rect.unit (s := S226x226x96) off S34x226x96.size (inb h)))) x8 -∗ K ⟨⟩))
      ⊢ wp frame (wpE (defs₀ (F := F)) Variants.none c none) Set.univ prog K) :
    Point c arg2 arg3 arg4 arg5 arg6 arg7 arg8 x2 x3 x4 x5 x6 prog i A tile (8 * (i 0).val + (i 1).val) := by
  have hj : (i 1).val < 8 := (i 1).isLt
  intro x7 K
  iintro ⟨⟨%x8, %h8, H⟩, Hk⟩
  by_cases h0 : (i 1).val = 0
  · iapply (hfirst h0 x7 x8 K)
    isplitl [H]
    · iexact H
    iintro H
    iapply Hk
    rw [if_pos h0]
    iexists _
    isplitr [H]
    rotate_left
    · iexact H
    ipureintro
    have hx := hx2 (by omega)
    rw [h0]
    simp only [h0] at hx
    exact Inv_first A (i 0) x2 hx x8
  by_cases h7 : (i 1).val = 7
  · iapply (hlast h0 h7 x7 x8 K)
    isplitl [H]
    · iexact H
    iintro H
    iapply Hk
    rw [if_neg h0, ld_win_last A (i 0) x8 (by rw [h7] at h8; exact h8) _ _ (by rw [hoff, h7]), show (i 1).val - 1 = 6 by omega]
    iexists _
    isplitr [H]
    rotate_left
    · iexact H
    ipureintro
    rw [h7]
    exact Inv_last A (i 0) x8
  · have hi := Inv_mid A (i 0) (i 1).val (by omega) (by omega) x2 (hx2 (by omega)) x8 h8
    iapply (hmid h0 h7 x7 x8 K)
    isplitl [H]
    · iexact H
    iintro H
    iapply Hk
    rw [if_neg h0, ld_win_mid A (i 0) (i 1).val (by omega) (by omega) _ hi _ _ hoff]
    iexists _
    isplitr [H]
    rotate_left
    · iexact H
    ipureintro
    exact hi

end

section
variable (c : Dev nD) (arg2 : Memref sig .tc .vmem S1x32x224x96 .bf16) (harg2 : arg2.IsWhole) (arg3 : Memref sig .tc .vmem S1x32x224x1 .f32) (harg3 : arg3.IsWhole)
  (arg4 : Memref sig .tc .vmem S3x3x96x96 .f32) (harg4 : arg4.IsWhole) (arg5 : Memref sig .tc .vmem S8x96 .f32) (harg5 : arg5.IsWhole)
  (arg6 : Memref sig .tc .vmem S96x8 .f32) (harg6 : arg6.IsWhole) (arg7 : Memref sig .tc .vmem S1x32x224x96 .bf16) (harg7 : arg7.IsWhole)
  (arg8 : Memref sig .tc .vmem S226x226x96 .bf16) (harg8 : arg8.IsWhole) (i : grid1.Coords) (A : Vec F S4x224x224x96 .bf16)
  (x2 : Vec F S1x32x224x96 .bf16) (x3 : Vec F S1x32x224x1 .f32) (x4 : Vec F S3x3x96x96 .f32) (x5 : Vec F S8x96 .f32) (x6 : Vec F S96x8 .f32)
  (hx2 : (h : (i 1).val < 7) → ∀ (r : Fin 32) (p : Fin 224) (d : Fin 96), x2 (ix4 0 r p d) = A (ix4 (i 0) ⟨32 * (i 1).val + r.val, by omega⟩ p d))
include hx2

/-- The first layer's body does what a step does. -/
theorem pointS : Point c arg2 arg3 arg4 arg5 arg6 arg7 arg8 x2 x3 x4 x5 x6 (cc1__conv_body i arg2 harg2 arg3 harg3 arg4 harg4 arg5 harg5 arg6 harg6 arg7 harg7 arg8 harg8)
    i A (tileS x3 x4 x5) (8 * (i 0).val + (i 1).val) :=
  have hj : (i 1).val < 8 := (i 1).isLt
  point c arg2 arg3 arg4 arg5 arg6 arg7 arg8 x2 x3 x4 x5 x6 _ i A _ hx2 (k1_off7 i) (fun h => k1_off7_inb i ((guard3 i).2 (by omega))) (k1_off7_eq i)
    (fun h x7 x8 K => first_1 c Set.univ arg2 harg2 arg3 harg3 arg4 harg4 arg5 harg5 arg6 harg6 arg7 harg7 arg8 harg8 x2 x3 x4 x5 x6 x7 x8 i ((guard1 i).2 h) ((guard2 i).2 (by omega)) (fun g => by have := (guard3 i).1 g; omega) K)
    (fun h h' x7 x8 K => mid_1 c Set.univ arg2 harg2 arg3 harg3 arg4 harg4 arg5 harg5 arg6 harg6 arg7 harg7 arg8 harg8 x2 x3 x4 x5 x6 x7 x8 i (fun g => h ((guard1 i).1 g)) ((guard2 i).2 (by omega)) ((guard3 i).2 (by omega)) K)
    (fun h h' x7 x8 K => last_1 c Set.univ arg2 harg2 arg3 harg3 arg4 harg4 arg5 harg5 arg6 harg6 arg7 harg7 arg8 harg8 x2 x3 x4 x5 x6 x7 x8 i (fun g => h ((guard1 i).1 g)) (fun g => by have := (guard2 i).1 g; omega) ((guard3 i).2 (by omega)) K)

/-- So does the other layers' body, which is one text. -/
theorem pointD : Point c arg2 arg3 arg4 arg5 arg6 arg7 arg8 x2 x3 x4 x5 x6 (cc2__conv_body i arg2 harg2 arg3 harg3 arg4 harg4 arg5 harg5 arg6 harg6 arg7 harg7 arg8 harg8)
    i A (tileD x3 x4 x5 x6) (8 * (i 0).val + (i 1).val) :=
  have hj : (i 1).val < 8 := (i 1).isLt
  point c arg2 arg3 arg4 arg5 arg6 arg7 arg8 x2 x3 x4 x5 x6 _ i A _ hx2 (k2_off7 i) (fun h => k2_off7_inb i ((guard3 i).2 (by omega))) (k2_off7_eq i)
    (fun h x7 x8 K => first_2 c Set.univ arg2 harg2 arg3 harg3 arg4 harg4 arg5 harg5 arg6 harg6 arg7 harg7 arg8 harg8 x2 x3 x4 x5 x6 x7 x8 i ((guard1 i).2 h) ((guard2 i).2 (by omega)) (fun g => by have := (guard3 i).1 g; omega) K)
    (fun h h' x7 x8 K => mid_2 c Set.univ arg2 harg2 arg3 harg3 arg4 harg4 arg5 harg5 arg6 harg6 arg7 harg7 arg8 harg8 x2 x3 x4 x5 x6 x7 x8 i (fun g => h ((guard1 i).1 g)) ((guard2 i).2 (by omega)) ((guard3 i).2 (by omega)) K)
    (fun h h' x7 x8 K => last_2 c Set.univ arg2 harg2 arg3 harg3 arg4 harg4 arg5 harg5 arg6 harg6 arg7 harg7 arg8 harg8 x2 x3 x4 x5 x6 x7 x8 i (fun g => h ((guard1 i).1 g)) (fun g => by have := (guard2 i).1 g; omega) ((guard3 i).2 (by omega)) K)

end
end Cert.KernelIdeal.Conv
-- ==== Proof.Layer.lean ====
module
public import proofs.«01_k».proof.Proof.Steps
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
@[expose] public section
set_option maxRecDepth 16384
noncomputable section
namespace Cert.KernelIdeal.Conv
open Idealize.ShloMosaic hiding ix0 ix1 ix2 ix3 ix4 ix5
open Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
variable {F : FTy → Type} [FloatOps F]
local notation "𝕄" => MT nD τ sig Unit (Elt F) ℕ (UR sig nD τ) ℕ

/-- A window the body leaves at its block holds its block when the body is called. -/
theorem before_block {cfg : Cfg sig Λ₀} {c : Dev nD} (dat : Dat τ (Elt F) Unit ℕ (UR sig nD τ) ℕ cfg c) (w : Fin cfg.W)
    (X : (t : Fin cfg.N) → (cfg.win w).block.Idx → Elt F (cfg.win w).elt)
    (hw : (cfg.win w).isOut = false) (hlive : ∀ i, cfg.idle w i = false)
    (hclip : ∀ t t' : Fin cfg.N, (cfg.win w).index t = (cfg.win w).index t' → (cfg.win w).clip (cfg.grid.coords t) = (cfg.win w).clip (cfg.grid.coords t'))
    (hkeep : ∀ t, (cfg.win w).cut (cfg.grid.coords t) (dat.after w t) = dat.blockOf w t) (hX : ∀ t d, dat.fetched w t d = X t)
    (t : Fin cfg.N) (d : (cfg.win w).block.Idx → Elt F (cfg.win w).elt) : dat.before w t d = X t :=
  (dat.before_in_eq_fetched w hw hlive hclip hkeep t d).trans (hX t d)

/-- The points in order: image by image, and within an image step by step. -/
theorem in_order : ∀ t : Fin grid1.N, t.val = 8 * (grid1.coords t 0).val + (grid1.coords t 1).val := by decide +kernel
/-- The output window is idle exactly at an image's first step. -/
theorem idle_first : ∀ i : grid1.Coords, (!(k1_cond3 i == 1#1)) = decide ((i 1).val = 0) := by decide +kernel
/-- It is not written back there. -/
theorem unflushed : ∀ t : Fin grid1.N, (grid1.coords t 1).val = 0 → win1_5.flush t = false := by decide +kernel

/-- The image's block a step loads, by coordinates. -/
theorem img_block (X : Vec F S4x224x224x96 .bf16) (i : grid1.Coords) (e : S1x32x224x96.Idx → S4x224x224x96.Idx)
    (he : ∀ y a, (e y a).val = cc1_transform_0 i a * S1x32x224x96.size a + 1 * (y a).val)
    (h : (i 1).val < 7) (r : Fin 32) (p : Fin 224) (d : Fin 96) : X (e (ix4 0 r p d)) = X (ix4 (i 0) ⟨32 * (i 1).val + r.val, by omega⟩ p d) := by
  refine congrArg X (funext fun a => Fin.ext ?_)
  rw [he, tr0 i]
  fin_cases a
  · show (i 0).val * 1 + 1 * 0 = (i 0).val; omega
  · show min (i 1).val 6 * 32 + 1 * r.val = 32 * (i 1).val + r.val; omega
  · show 0 * 224 + 1 * p.val = p.val; omega
  · show 0 * 96 + 1 * d.val = d.val; omega

section
variable (c : Dev nD) (arg2 : Memref sig .tc .vmem S1x32x224x96 .bf16) (arg3 : Memref sig .tc .vmem S1x32x224x1 .f32) (arg4 : Memref sig .tc .vmem S3x3x96x96 .f32)
  (arg5 : Memref sig .tc .vmem S8x96 .f32) (arg6 : Memref sig .tc .vmem S96x8 .f32) (arg7 : Memref sig .tc .vmem S1x32x224x96 .bf16) (arg8 : Memref sig .tc .vmem S226x226x96 .bf16)
  (x2 : Vec F S1x32x224x96 .bf16) (x3 : Vec F S1x32x224x1 .f32) (x4 : Vec F S3x3x96x96 .f32) (x5 : Vec F S8x96 .f32) (x6 : Vec F S96x8 .f32)
  (A : Vec F S4x224x224x96 .bf16)

/-- What a layer's region keeps between points: the padded image filled as far as the points before went, and the rest `P`. -/
def Kept (P : sProp 𝕄) (n : ℕ) : sProp 𝕄 := iprop((∃ x8, ⌜Inv A n x8⌝ ∗ owns (c : Thread nD τ) arg8 fullShare x8) ∗ P)

/-- The buffers no window stages make it before the first point, -/
theorem kept_in (P : sProp 𝕄) (Q : Vec F S226x226x96 .bf16 → sProp 𝕄) (hQ : ∀ f, owns (c : Thread nD τ) arg8 fullShare f = Q f) (S R : sProp 𝕄) (hS : S = iprop((∃ f, Q f) ∗ P)) :
    iprop(R ∗ S) ⊢ Kept c arg8 A iprop(P ∗ R) 0 := by
  subst hS
  unfold Kept
  simp only [hQ]
  iintro ⟨Hp, ⟨%f, Hf⟩, Hr⟩
  isplitl [Hf]
  · iexists f; isplitr
    · ipureintro; exact Inv_zero _ f
    iexact Hf
  isplitl [Hr]; · iexact Hr
  iexact Hp

/-- and come back after the last. -/
theorem kept_out (P : sProp 𝕄) (Q : Vec F S226x226x96 .bf16 → sProp 𝕄) (hQ : ∀ f, owns (c : Thread nD τ) arg8 fullShare f = Q f) (S R : sProp 𝕄) (hS : S = iprop((∃ f, Q f) ∗ P)) (n : ℕ) :
    Kept c arg8 A iprop(P ∗ R) n ⊢ iprop(R ∗ S) := by
  subst hS
  unfold Kept
  simp only [hQ]
  iintro ⟨⟨%x8, -, Hf⟩, Hr, Hp⟩
  isplitl [Hp]; · iexact Hp
  isplitl [Hf]
  · iexists x8
    iexact Hf
  iexact Hr

/-- What the output's window is left at: where it is idle and not written back, as it was; elsewhere, stored. -/
def OutAt (idle flush : Bool) (kept stored : sProp 𝕄) : sProp 𝕄 :=
  match idle with
  | true => match flush with
    | false => kept
    | true => stored
  | false => stored

/-- A body that does what a step does, between what a region hands it at point `n` and what the region wants back: the inputs' buffers at their blocks,
    the output's as it was where the window is idle and at the tile elsewhere. -/
theorem layer_step (P : sProp 𝕄) (prog : Prog (TpuEff nD τ sig (Elt F) Λ₀ .tc) PUnit) (i : grid1.Coords) (tile : Vec F S34x226x96 .bf16 → Vec F S1x32x224x96 .bf16) (n : ℕ)
    (hp : Point c arg2 arg3 arg4 arg5 arg6 arg7 arg8 x2 x3 x4 x5 x6 prog i A tile (8 * (i 0).val + (i 1).val)) (hn : n = 8 * (i 0).val + (i 1).val)
    {D2 D3 D4 D5 D6 D7 : Type} {b2 : D2 → Vec F S1x32x224x96 .bf16} {b3 : D3 → Vec F S1x32x224x1 .f32} {b4 : D4 → Vec F S3x3x96x96 .f32} {b5 : D5 → Vec F S8x96 .f32}
    {b6 : D6 → Vec F S96x8 .f32} {b7 : D7 → Vec F S1x32x224x96 .bf16}
    (h2 : ∀ d, b2 d = x2) (h3 : ∀ d, b3 d = x3) (h4 : ∀ d, b4 d = x4) (h5 : ∀ d, b5 d = x5) (h6 : ∀ d, b6 d = x6)
    (O : sProp 𝕄) (idle flush : Bool) (hi : idle = decide ((i 1).val = 0)) (hf : (i 1).val = 0 → flush = false) :
    iprop(Kept c arg8 A P n ∗ O ∗ (∃ d, owns (c : Thread nD τ) arg2 fullShare (b2 d)) ∗ (∃ d, owns (c : Thread nD τ) arg3 fullShare (b3 d))
        ∗ (∃ d, owns (c : Thread nD τ) arg4 fullShare (b4 d)) ∗ (∃ d, owns (c : Thread nD τ) arg5 fullShare (b5 d)) ∗ (∃ d, owns (c : Thread nD τ) arg6 fullShare (b6 d))
        ∗ (∃ d, owns (c : Thread nD τ) arg7 fullShare (b7 d)))
      ⊢ wp frame (wpE (defs₀ (F := F)) Variants.none c none) Set.univ prog fun _ =>
        iprop(Kept c arg8 A P (n + 1) ∗ O ∗ owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare x6
          ∗ OutAt idle flush iprop(∃ d, owns (c : Thread nD τ) arg7 fullShare (b7 d)) (owns (c : Thread nD τ) arg7 fullShare (tile (winOf A (i 0) ((i 1).val - 1))))) := by
  subst hn hi
  simp only [h2, h3, h4, h5, h6]
  unfold Point held at hp
  unfold Kept
  iintro ⟨⟨⟨%x8, %h8, H8⟩, HP⟩, Ho, ⟨%d2, H2⟩, ⟨%d3, H3⟩, ⟨%d4, H4⟩, ⟨%d5, H5⟩, ⟨%d6, H6⟩, ⟨%d7, H7⟩⟩
  iapply (hp (b7 d7) _)
  isplitl [H2 H3 H4 H5 H6 H7 H8]
  · iexists x8
    isplitr
    · ipureintro; exact h8
    isplitl [H2]; · iexact H2
    isplitl [H3]; · iexact H3
    isplitl [H4]; · iexact H4
    isplitl [H5]; · iexact H5
    isplitl [H6]; · iexact H6
    isplitl [H7]; · iexact H7
    iexact H8
  iintro ⟨%y8, %k8, H2, H3, H4, H5, H6, H7, H8⟩
  isplitl [H8 HP]
  · isplitl [H8]
    · iexists y8
      isplitr
      · ipureintro; exact k8
      iexact H8
    iexact HP
  isplitl [Ho]; · iexact Ho
  isplitl [H2]; · iexact H2
  isplitl [H3]; · iexact H3
  isplitl [H4]; · iexact H4
  isplitl [H5]; · iexact H5
  isplitl [H6]; · iexact H6
  by_cases h0 : (i 1).val = 0
  · rw [if_pos h0, decide_eq_true h0, hf h0]
    unfold OutAt
    iexists d7
    iexact H7
  · rw [if_neg h0, decide_eq_false h0]
    unfold OutAt
    iexact H7

end

end Cert.KernelIdeal.Conv
-- ==== Proof.Layers.lean ====
module
public import proofs.«01_k».proof.Proof.Layer
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
@[expose] public section
set_option maxRecDepth 16384
noncomputable section
namespace Cert.KernelIdeal.Conv
open Idealize.ShloMosaic hiding ix0 ix1 ix2 ix3 ix4 ix5
open Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
variable {F : FTy → Type} [FloatOps F]
local notation "𝕄" => MT nD τ sig Unit (Elt F) ℕ (UR sig nD τ) ℕ
-- the buffer contents when a region is entered
variable (V : (c : Dev nD) → (b : Ref sig .tc) → Buf (Elt F) ((c : Thread nD τ).loc b))

/-- Window `w`'s block at point `t` of the first layer's region, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile a point stores, past an image's first step, from the rows it loads. -/
def otile1 (c : Dev nD) (t : Fin cfg1.N) : Vec F S34x226x96 .bf16 → Vec F S1x32x224x96 .bf16 :=
  tileS (iblk1 V c 1 t) (iblk1 V c 2 t) (iblk1 V c 3 t)

/-- The region's proof data: each input's buffer at its block, the output's at the tile; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => otile1 V c t (winOf (V c main_v11) (grid1.coords t 0) ((grid1.coords t 1).val - 1))
  Φ t := Kept c (Memref.whole cc1_scratch0) (V c main_v11) iprop(Pipeline.scopedRestBut (Ix := Unit) (Name := ℕ) (U := UR sig nD τ) (Lvl := ℕ) (Val := Elt F) spec1 c [cc1_scratch0] ∗ ∃ r, prngReg c r) t.val
  q _ := fullShare
  owed _ := 0

theorem A_eq1 (c : Dev nD) (w : Fin cfg1.W) : (dat1 V c).A w = V c (Pipeline.arrRef spec1 w) := by
  dsimp only [dat1]
theorem after1_5 (c : Dev nD) (t : Fin cfg1.N) : (dat1 V c).after 5 t = otile1 V c t (winOf (V c main_v11) (grid1.coords t 0) ((grid1.coords t 1).val - 1)) := by
  dsimp only [dat1]

theorem defs₀_row1 (t : Fin cfg1.N) : defs₀ (F := F) .tc cfg1.body (cfg1.bodyArgs t (cfg1.slots t)) = bodyAt1 t := by
  unfold defs₀; rw [Defs.onTc_tc]

/-- The body obligation of the region, at every point. -/
theorem body_obligation1 (c : Dev nD) : BodyObligation (dat1 (F := F) V c) (defs₀ (F := F)) Variants.none () Set.univ := fun t => by
  rw [bigSep_W1, bigSep_W1, defs₀_row1]
  exact triple_restated (layer_step c (st1_0 t) (st1_1 t) (st1_2 t) (st1_3 t) (st1_4 t) (st1_5 t) (Memref.whole cc1_scratch0)
    (iblk1 V c 0 t) (iblk1 V c 1 t) (iblk1 V c 2 t) (iblk1 V c 3 t) (iblk1 V c 4 t) (V c main_v11) _ (bodyAt1 t) (grid1.coords t) (otile1 V c t) t.val
    (pointS c _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) _ (Memref.isWhole_whole _) (grid1.coords t) (V c main_v11) _ _ _ _ _
      (img_block (V c main_v11) (grid1.coords t) (fun y => ((cfg1.win 0).blk t).view.emb y) fun _ _ => rfl)) (in_order t)
    (before_block (dat1 V c) 0 (iblk1 V c 0) rfl (fun _ => rfl) (fun _ _ _ => rfl) (fun _ => rfl) (fun _ _ => rfl) t)
    (before_block (dat1 V c) 1 (iblk1 V c 1) rfl (fun _ => rfl) (fun _ _ _ => rfl) (fun _ => rfl) (fun _ _ => rfl) t)
    (before_block (dat1 V c) 2 (iblk1 V c 2) rfl (fun _ => rfl) (fun _ _ _ => rfl) (fun _ => rfl) (fun _ _ => rfl) t)
    (before_block (dat1 V c) 3 (iblk1 V c 3) rfl (fun _ => rfl) (fun _ _ _ => rfl) (fun _ => rfl) (fun _ _ => rfl) t)
    (before_block (dat1 V c) 4 (iblk1 V c 4) rfl (fun _ => rfl) (fun _ _ _ => rfl) (fun _ => rfl) (fun _ _ => rfl) t)
    _ (cfg1.idle 5 (cfg1.grid.coords t)) ((cfg1.win 5).flush t) (idle_first (grid1.coords t)) (unflushed t)) rfl .rfl fun _ => .rfl

/-- What the region keeps is made of the scoped buffers no window stages, and gives them back. -/
theorem hin1 (c : Dev nD) : iprop((∃ r, prngReg c r) ∗ Pipeline.scopedRest (Ix := Unit) (Name := ℕ) (U := UR sig nD τ) (Lvl := ℕ) (Val := Elt F) spec1 c) ⊢ (dat1 V c).Φ 0 :=
  kept_in c _ _ _ _ (owns_whole (c : Thread nD τ) cc1_scratch0 fullShare) _ _ (scopedRest1_split c)
theorem hout1 (c : Dev nD) : (dat1 V c).Φ (Fin.last cfg1.N) ⊢ iprop((∃ r, prngReg c r) ∗ Pipeline.scopedRest (Ix := Unit) (Name := ℕ) (U := UR sig nD τ) (Lvl := ℕ) (Val := Elt F) spec1 c) :=
  kept_out c _ _ _ _ (owns_whole (c : Thread nD τ) cc1_scratch0 fullShare) _ _ (scopedRest1_split c) _

/-- Window `w`'s block at point `t` of the second layer's region, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The tile a point stores, past an image's first step, from the rows it loads. -/
def otile2 (c : Dev nD) (t : Fin cfg2.N) : Vec F S34x226x96 .bf16 → Vec F S1x32x224x96 .bf16 :=
  tileD (iblk2 V c 1 t) (iblk2 V c 2 t) (iblk2 V c 3 t) (iblk2 V c 4 t)

/-- The region's proof data: each input's buffer at its block, the output's at the tile; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => otile2 V c t (winOf (V c main_v31) (grid2.coords t 0) ((grid2.coords t 1).val - 1))
  Φ t := Kept c (Memref.whole cc2_scratch0) (V c main_v31) iprop(Pipeline.scopedRestBut (Ix := Unit) (Name := ℕ) (U := UR sig nD τ) (Lvl := ℕ) (Val := Elt F) spec2 c [cc2_scratch0] ∗ ∃ r, prngReg c r) t.val
  q _ := fullShare
  owed _ := 0

theorem A_eq2 (c : Dev nD) (w : Fin cfg2.W) : (dat2 V c).A w = V c (Pipeline.arrRef spec2 w) := by
  dsimp only [dat2]
theorem after2_5 (c : Dev nD) (t : Fin cfg2.N) : (dat2 V c).after 5 t = otile2 V c t (winOf (V c main_v31) (grid2.coords t 0) ((grid2.coords t 1).val - 1)) := by
  dsimp only [dat2]

theorem defs₀_row2 (t : Fin cfg2.N) : defs₀ (F := F) .tc cfg2.body (cfg2.bodyArgs t (cfg2.slots t)) = bodyAt2 t := by
  unfold defs₀; rw [Defs.onTc_tc]

/-- The body obligation of the region, at every point. -/
theorem body_obligation2 (c : Dev nD) : BodyObligation (dat2 (F := F) V c) (defs₀ (F := F)) Variants.none () Set.univ := fun t => by
  rw [bigSep_W2, bigSep_W2, defs₀_row2]
  exact triple_restated (layer_step c (st2_0 t) (st2_1 t) (st2_2 t) (st2_3 t) (st2_4 t) (st2_5 t) (Memref.whole cc2_scratch0)
    (iblk2 V c 0 t) (iblk2 V c 1 t) (iblk2 V c 2 t) (iblk2 V c 3 t) (iblk2 V c 4 t) (V c main_v31) _ (bodyAt2 t) (grid2.coords t) (otile2 V c t) t.val
    (pointD c _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4)) _ (hstage2_5 ((cfg2.slots t 5).cast nbuf2_5)) _ (Memref.isWhole_whole _) (grid2.coords t) (V c main_v31) _ _ _ _ _
      (img_block (V c main_v31) (grid2.coords t) (fun y => ((cfg2.win 0).blk t).view.emb y) fun _ _ => rfl)) (in_order t)
    (before_block (dat2 V c) 0 (iblk2 V c 0) rfl (fun _ => rfl) (fun _ _ _ => rfl) (fun _ => rfl) (fun _ _ => rfl) t)
    (before_block (dat2 V c) 1 (iblk2 V c 1) rfl (fun _ => rfl) (fun _ _ _ => rfl) (fun _ => rfl) (fun _ _ => rfl) t)
    (before_block (dat2 V c) 2 (iblk2 V c 2) rfl (fun _ => rfl) (fun _ _ _ => rfl) (fun _ => rfl) (fun _ _ => rfl) t)
    (before_block (dat2 V c) 3 (iblk2 V c 3) rfl (fun _ => rfl) (fun _ _ _ => rfl) (fun _ => rfl) (fun _ _ => rfl) t)
    (before_block (dat2 V c) 4 (iblk2 V c 4) rfl (fun _ => rfl) (fun _ _ _ => rfl) (fun _ => rfl) (fun _ _ => rfl) t)
    _ (cfg2.idle 5 (cfg2.grid.coords t)) ((cfg2.win 5).flush t) (idle_first (grid2.coords t)) (unflushed t)) rfl .rfl fun _ => .rfl

/-- What the region keeps is made of the scoped buffers no window stages, and gives them back. -/
theorem hin2 (c : Dev nD) : iprop((∃ r, prngReg c r) ∗ Pipeline.scopedRest (Ix := Unit) (Name := ℕ) (U := UR sig nD τ) (Lvl := ℕ) (Val := Elt F) spec2 c) ⊢ (dat2 V c).Φ 0 :=
  kept_in c _ _ _ _ (owns_whole (c : Thread nD τ) cc2_scratch0 fullShare) _ _ (scopedRest2_split c)
theorem hout2 (c : Dev nD) : (dat2 V c).Φ (Fin.last cfg2.N) ⊢ iprop((∃ r, prngReg c r) ∗ Pipeline.scopedRest (Ix := Unit) (Name := ℕ) (U := UR sig nD τ) (Lvl := ℕ) (Val := Elt F) spec2 c) :=
  kept_out c _ _ _ _ (owns_whole (c : Thread nD τ) cc2_scratch0 fullShare) _ _ (scopedRest2_split c) _

/-- Window `w`'s block at point `t` of the third layer's region, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The tile a point stores, past an image's first step, from the rows it loads. -/
def otile3 (c : Dev nD) (t : Fin cfg3.N) : Vec F S34x226x96 .bf16 → Vec F S1x32x224x96 .bf16 :=
  tileD (iblk3 V c 1 t) (iblk3 V c 2 t) (iblk3 V c 3 t) (iblk3 V c 4 t)

/-- The region's proof data: each input's buffer at its block, the output's at the tile; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => otile3 V c t (winOf (V c main_v47) (grid3.coords t 0) ((grid3.coords t 1).val - 1))
  Φ t := Kept c (Memref.whole cc3_scratch0) (V c main_v47) iprop(Pipeline.scopedRestBut (Ix := Unit) (Name := ℕ) (U := UR sig nD τ) (Lvl := ℕ) (Val := Elt F) spec3 c [cc3_scratch0] ∗ ∃ r, prngReg c r) t.val
  q _ := fullShare
  owed _ := 0

theorem A_eq3 (c : Dev nD) (w : Fin cfg3.W) : (dat3 V c).A w = V c (Pipeline.arrRef spec3 w) := by
  dsimp only [dat3]
theorem after3_5 (c : Dev nD) (t : Fin cfg3.N) : (dat3 V c).after 5 t = otile3 V c t (winOf (V c main_v47) (grid3.coords t 0) ((grid3.coords t 1).val - 1)) := by
  dsimp only [dat3]

theorem defs₀_row3 (t : Fin cfg3.N) : defs₀ (F := F) .tc cfg3.body (cfg3.bodyArgs t (cfg3.slots t)) = bodyAt3 t := by
  unfold defs₀; rw [Defs.onTc_tc]

/-- The body obligation of the region, at every point. -/
theorem body_obligation3 (c : Dev nD) : BodyObligation (dat3 (F := F) V c) (defs₀ (F := F)) Variants.none () Set.univ := fun t => by
  rw [bigSep_W3, bigSep_W3, defs₀_row3]
  exact triple_restated (layer_step c (st3_0 t) (st3_1 t) (st3_2 t) (st3_3 t) (st3_4 t) (st3_5 t) (Memref.whole cc3_scratch0)
    (iblk3 V c 0 t) (iblk3 V c 1 t) (iblk3 V c 2 t) (iblk3 V c 3 t) (iblk3 V c 4 t) (V c main_v47) _ (bodyAt3 t) (grid3.coords t) (otile3 V c t) t.val
    (pointD c _ (hstage3_0 ((cfg3.slots t 0).cast nbuf3_0)) _ (hstage3_1 ((cfg3.slots t 1).cast nbuf3_1)) _ (hstage3_2 ((cfg3.slots t 2).cast nbuf3_2)) _ (hstage3_3 ((cfg3.slots t 3).cast nbuf3_3)) _ (hstage3_4 ((cfg3.slots t 4).cast nbuf3_4)) _ (hstage3_5 ((cfg3.slots t 5).cast nbuf3_5)) _ (Memref.isWhole_whole _) (grid3.coords t) (V c main_v47) _ _ _ _ _
      (img_block (V c main_v47) (grid3.coords t) (fun y => ((cfg3.win 0).blk t).view.emb y) fun _ _ => rfl)) (in_order t)
    (before_block (dat3 V c) 0 (iblk3 V c 0) rfl (fun _ => rfl) (fun _ _ _ => rfl) (fun _ => rfl) (fun _ _ => rfl) t)
    (before_block (dat3 V c) 1 (iblk3 V c 1) rfl (fun _ => rfl) (fun _ _ _ => rfl) (fun _ => rfl) (fun _ _ => rfl) t)
    (before_block (dat3 V c) 2 (iblk3 V c 2) rfl (fun _ => rfl) (fun _ _ _ => rfl) (fun _ => rfl) (fun _ _ => rfl) t)
    (before_block (dat3 V c) 3 (iblk3 V c 3) rfl (fun _ => rfl) (fun _ _ _ => rfl) (fun _ => rfl) (fun _ _ => rfl) t)
    (before_block (dat3 V c) 4 (iblk3 V c 4) rfl (fun _ => rfl) (fun _ _ _ => rfl) (fun _ => rfl) (fun _ _ => rfl) t)
    _ (cfg3.idle 5 (cfg3.grid.coords t)) ((cfg3.win 5).flush t) (idle_first (grid3.coords t)) (unflushed t)) rfl .rfl fun _ => .rfl

/-- What the region keeps is made of the scoped buffers no window stages, and gives them back. -/
theorem hin3 (c : Dev nD) : iprop((∃ r, prngReg c r) ∗ Pipeline.scopedRest (Ix := Unit) (Name := ℕ) (U := UR sig nD τ) (Lvl := ℕ) (Val := Elt F) spec3 c) ⊢ (dat3 V c).Φ 0 :=
  kept_in c _ _ _ _ (owns_whole (c : Thread nD τ) cc3_scratch0 fullShare) _ _ (scopedRest3_split c)
theorem hout3 (c : Dev nD) : (dat3 V c).Φ (Fin.last cfg3.N) ⊢ iprop((∃ r, prngReg c r) ∗ Pipeline.scopedRest (Ix := Unit) (Name := ℕ) (U := UR sig nD τ) (Lvl := ℕ) (Val := Elt F) spec3 c) :=
  kept_out c _ _ _ _ (owns_whole (c : Thread nD τ) cc3_scratch0 fullShare) _ _ (scopedRest3_split c) _

/-- Window `w`'s block at point `t` of the fourth layer's region, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The tile a point stores, past an image's first step, from the rows it loads. -/
def otile4 (c : Dev nD) (t : Fin cfg4.N) : Vec F S34x226x96 .bf16 → Vec F S1x32x224x96 .bf16 :=
  tileD (iblk4 V c 1 t) (iblk4 V c 2 t) (iblk4 V c 3 t) (iblk4 V c 4 t)

/-- The region's proof data: each input's buffer at its block, the output's at the tile; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => otile4 V c t (winOf (V c main_v63) (grid4.coords t 0) ((grid4.coords t 1).val - 1))
  Φ t := Kept c (Memref.whole cc4_scratch0) (V c main_v63) iprop(Pipeline.scopedRestBut (Ix := Unit) (Name := ℕ) (U := UR sig nD τ) (Lvl := ℕ) (Val := Elt F) spec4 c [cc4_scratch0] ∗ ∃ r, prngReg c r) t.val
  q _ := fullShare
  owed _ := 0

theorem A_eq4 (c : Dev nD) (w : Fin cfg4.W) : (dat4 V c).A w = V c (Pipeline.arrRef spec4 w) := by
  dsimp only [dat4]
theorem after4_5 (c : Dev nD) (t : Fin cfg4.N) : (dat4 V c).after 5 t = otile4 V c t (winOf (V c main_v63) (grid4.coords t 0) ((grid4.coords t 1).val - 1)) := by
  dsimp only [dat4]

theorem defs₀_row4 (t : Fin cfg4.N) : defs₀ (F := F) .tc cfg4.body (cfg4.bodyArgs t (cfg4.slots t)) = bodyAt4 t := by
  unfold defs₀; rw [Defs.onTc_tc]

/-- The body obligation of the region, at every point. -/
theorem body_obligation4 (c : Dev nD) : BodyObligation (dat4 (F := F) V c) (defs₀ (F := F)) Variants.none () Set.univ := fun t => by
  rw [bigSep_W4, bigSep_W4, defs₀_row4]
  exact triple_restated (layer_step c (st4_0 t) (st4_1 t) (st4_2 t) (st4_3 t) (st4_4 t) (st4_5 t) (Memref.whole cc4_scratch0)
    (iblk4 V c 0 t) (iblk4 V c 1 t) (iblk4 V c 2 t) (iblk4 V c 3 t) (iblk4 V c 4 t) (V c main_v63) _ (bodyAt4 t) (grid4.coords t) (otile4 V c t) t.val
    (pointD c _ (hstage4_0 ((cfg4.slots t 0).cast nbuf4_0)) _ (hstage4_1 ((cfg4.slots t 1).cast nbuf4_1)) _ (hstage4_2 ((cfg4.slots t 2).cast nbuf4_2)) _ (hstage4_3 ((cfg4.slots t 3).cast nbuf4_3)) _ (hstage4_4 ((cfg4.slots t 4).cast nbuf4_4)) _ (hstage4_5 ((cfg4.slots t 5).cast nbuf4_5)) _ (Memref.isWhole_whole _) (grid4.coords t) (V c main_v63) _ _ _ _ _
      (img_block (V c main_v63) (grid4.coords t) (fun y => ((cfg4.win 0).blk t).view.emb y) fun _ _ => rfl)) (in_order t)
    (before_block (dat4 V c) 0 (iblk4 V c 0) rfl (fun _ => rfl) (fun _ _ _ => rfl) (fun _ => rfl) (fun _ _ => rfl) t)
    (before_block (dat4 V c) 1 (iblk4 V c 1) rfl (fun _ => rfl) (fun _ _ _ => rfl) (fun _ => rfl) (fun _ _ => rfl) t)
    (before_block (dat4 V c) 2 (iblk4 V c 2) rfl (fun _ => rfl) (fun _ _ _ => rfl) (fun _ => rfl) (fun _ _ => rfl) t)
    (before_block (dat4 V c) 3 (iblk4 V c 3) rfl (fun _ => rfl) (fun _ _ _ => rfl) (fun _ => rfl) (fun _ _ => rfl) t)
    (before_block (dat4 V c) 4 (iblk4 V c 4) rfl (fun _ => rfl) (fun _ _ _ => rfl) (fun _ => rfl) (fun _ _ => rfl) t)
    _ (cfg4.idle 5 (cfg4.grid.coords t)) ((cfg4.win 5).flush t) (idle_first (grid4.coords t)) (unflushed t)) rfl .rfl fun _ => .rfl

/-- What the region keeps is made of the scoped buffers no window stages, and gives them back. -/
theorem hin4 (c : Dev nD) : iprop((∃ r, prngReg c r) ∗ Pipeline.scopedRest (Ix := Unit) (Name := ℕ) (U := UR sig nD τ) (Lvl := ℕ) (Val := Elt F) spec4 c) ⊢ (dat4 V c).Φ 0 :=
  kept_in c _ _ _ _ (owns_whole (c : Thread nD τ) cc4_scratch0 fullShare) _ _ (scopedRest4_split c)
theorem hout4 (c : Dev nD) : (dat4 V c).Φ (Fin.last cfg4.N) ⊢ iprop((∃ r, prngReg c r) ∗ Pipeline.scopedRest (Ix := Unit) (Name := ℕ) (U := UR sig nD τ) (Lvl := ℕ) (Val := Elt F) spec4 c) :=
  kept_out c _ _ _ _ (owns_whole (c : Thread nD τ) cc4_scratch0 fullShare) _ _ (scopedRest4_split c) _

end Cert.KernelIdeal.Conv
-- ==== Proof.RegionEnds.lean ====
module
public import proofs.«01_k».proof.Proof.Layer
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
@[expose] public section
set_option maxRecDepth 16384
noncomputable section
namespace Cert.KernelIdeal.Conv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
variable {F : FTy → Type} [FloatOps F]
local notation "𝕄" => MT nD τ sig Unit (Elt F) ℕ (UR sig nD τ) ℕ
-- the buffer contents when a region is entered
variable (V : (c : Dev nD) → (b : Ref sig .tc) → Buf (Elt F) ((c : Thread nD τ).loc b))

/-- A load of the whole of a block. -/
abbrev rWhole : Rect S1x32x224x96 := Rect.unit (s := S1x32x224x96) ![0, 0, 0, 0] S1x32x224x96.size inb_S1x32x224x96_S1x32x224x96_0_0_0_0
abbrev rProb : Rect S384x2 := Rect.unit (s := S384x2) ![0, 0] S384x2.size inb_S384x2_S384x2_0_0

/-- What the mask region's body stores, from the parameter and the noise. -/
def maskOut (x0 x1 : Vec F S384x2 .f32) : Vec F S384x2 .f32 := k0_pay1 (View.ld x0 rProb) (View.ld x1 rProb)

/-- What the last region's body stores, from the four layers' blocks, the mixing weights and the bias. -/
def mixOut (x0 x1 x2 x3 : Vec F S1x32x224x96 .bf16) (x4 : Vec F S384x96 .bf16) (x5 : Vec F S8x96 .f32) : Vec F S1x32x224x96 .f32 :=
  k5_pay1 (k5_pay2 (View.ld x5 (Rect.unit (s := S8x96) ![0, 0] S1x96.size inb_S8x96_S1x96_0_0))
      (View.ld x0 rWhole) (View.ld x4 (Rect.unit (s := S384x96) ![0, 0] S96x96.size inb_S384x96_S96x96_0_0))
      (View.ld x1 rWhole) (View.ld x4 (Rect.unit (s := S384x96) ![96, 0] S96x96.size inb_S384x96_S96x96_96_0))
      (View.ld x2 rWhole) (View.ld x4 (Rect.unit (s := S384x96) ![192, 0] S96x96.size inb_S384x96_S96x96_192_0)))
    (k5_pay3 (View.ld x3 rWhole)) (View.ld x4 (Rect.unit (s := S384x96) ![288, 0] S96x96.size inb_S384x96_S96x96_288_0))

/-- The body on whole buffers, the inputs' at `x0`, `x1`, …, leaves the inputs as they were and the output at what it stores. -/
theorem sound_kernel0 (c : Dev nD) (E : Set ℕ) (arg0 : Memref sig .tc .vmem S384x2 .f32) (harg0 : arg0.IsWhole) (arg1 : Memref sig .tc .vmem S384x2 .f32) (harg1 : arg1.IsWhole) (arg2 : Memref sig .tc .vmem S384x2 .f32) (harg2 : arg2.IsWhole)
    (x0 : Vec F S384x2 .f32) (x1 : Vec F S384x2 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (maskOut x0 x1)) -∗ K ⟨⟩))
      ⊢ wp frame (wpE (defs₀ (F := F)) Variants.none c none) E (cc0__chmask_body arg0 harg0 arg1 harg1 arg2 harg2) K := by
  simp only [cc0__chmask_body_eq_skeleton]; unfold cc0__chmask_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_full _ _ _ _ _

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The mask region's proof data: each input's buffer at its block, the output's at what the body stores; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => maskOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = maskOut (iblk0 V c 0 t) (iblk0 V c 1 t) := by dsimp only [dat0]
theorem before0_0 (c : Dev nD) (t : Fin cfg0.N) (d) : (dat0 V c).before 0 t d = iblk0 V c 0 t :=
  before_block (dat0 V c) 0 (iblk0 V c 0) rfl (fun _ => rfl) (fun _ _ _ => rfl) (fun _ => rfl) (fun _ _ => rfl) t d
theorem before0_1 (c : Dev nD) (t : Fin cfg0.N) (d) : (dat0 V c).before 1 t d = iblk0 V c 1 t :=
  before_block (dat0 V c) 1 (iblk0 V c 1) rfl (fun _ => rfl) (fun _ _ _ => rfl) (fun _ => rfl) (fun _ _ => rfl) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so its triple applies; the invariant passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) : defs₀ (F := F) .tc cfg0.body (cfg0.bodyArgs t (cfg0.slots t)) = bodyAt0 t := by
  unfold defs₀; rw [Defs.onTc_tc]

/-- The body obligation of the region, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The scoped buffers no window stages and the generator register are the invariant, before the first point -/
theorem hin0 (c : Dev nD) : iprop((∃ r, prngReg c r) ∗ Pipeline.scopedRest (Ix := Unit) (Name := ℕ) (U := UR sig nD τ) (Lvl := ℕ) (Val := Elt F) spec0 c) ⊢ (dat0 V c).Φ 0 := by
  rw [show (dat0 V c).Φ 0 = Pipeline.ΦA spec0 c from rfl]; unfold Pipeline.ΦA
  iintro ⟨Hp, Hr⟩
  isplitl [Hr]; · iexact Hr
  iexact Hp

/-- and after the last. -/
theorem hout0 (c : Dev nD) : (dat0 V c).Φ (Fin.last cfg0.N) ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = Pipeline.ΦA spec0 c from rfl]; unfold Pipeline.ΦA
  iintro ⟨Hr, Hp⟩
  isplitl [Hp]; · iexact Hp
  iexact Hr

/-- The body on whole buffers, the inputs' at `x0`, `x1`, …, leaves the inputs as they were and the output at what it stores. -/
theorem sound_kernel5 (c : Dev nD) (E : Set ℕ) (i : grid5.Coords) (arg2 : Memref sig .tc .vmem S1x32x224x96 .bf16) (harg2 : arg2.IsWhole) (arg3 : Memref sig .tc .vmem S1x32x224x96 .bf16) (harg3 : arg3.IsWhole) (arg4 : Memref sig .tc .vmem S1x32x224x96 .bf16) (harg4 : arg4.IsWhole) (arg5 : Memref sig .tc .vmem S1x32x224x96 .bf16) (harg5 : arg5.IsWhole) (arg6 : Memref sig .tc .vmem S384x96 .bf16) (harg6 : arg6.IsWhole) (arg7 : Memref sig .tc .vmem S8x96 .f32) (harg7 : arg7.IsWhole) (arg8 : Memref sig .tc .vmem S1x32x224x96 .f32) (harg8 : arg8.IsWhole)
    (x0 : Vec F S1x32x224x96 .bf16) (x1 : Vec F S1x32x224x96 .bf16) (x2 : Vec F S1x32x224x96 .bf16) (x3 : Vec F S1x32x224x96 .bf16) (x4 : Vec F S384x96 .bf16) (x5 : Vec F S8x96 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (mixOut x0 x1 x2 x3 x4 x5)) -∗ K ⟨⟩))
      ⊢ wp frame (wpE (defs₀ (F := F)) Variants.none c none) E (cc5__final_body i arg2 harg2 arg3 harg3 arg4 harg4 arg5 harg5 arg6 harg6 arg7 harg7 arg8 harg8) K := by
  simp only [cc5__final_body_eq_skeleton]; unfold cc5__final_body_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_full _ _ _ _ _

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The last region's proof data: each input's buffer at its block, the output's at what the body stores; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => mixOut (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = mixOut (iblk5 V c 0 t) (iblk5 V c 1 t) (iblk5 V c 2 t) (iblk5 V c 3 t) (iblk5 V c 4 t) (iblk5 V c 5 t) := by dsimp only [dat5]
theorem before5_0 (c : Dev nD) (t : Fin cfg5.N) (d) : (dat5 V c).before 0 t d = iblk5 V c 0 t :=
  before_block (dat5 V c) 0 (iblk5 V c 0) rfl (fun _ => rfl) (fun _ _ _ => rfl) (fun _ => rfl) (fun _ _ => rfl) t d
theorem before5_1 (c : Dev nD) (t : Fin cfg5.N) (d) : (dat5 V c).before 1 t d = iblk5 V c 1 t :=
  before_block (dat5 V c) 1 (iblk5 V c 1) rfl (fun _ => rfl) (fun _ _ _ => rfl) (fun _ => rfl) (fun _ _ => rfl) t d
theorem before5_2 (c : Dev nD) (t : Fin cfg5.N) (d) : (dat5 V c).before 2 t d = iblk5 V c 2 t :=
  before_block (dat5 V c) 2 (iblk5 V c 2) rfl (fun _ => rfl) (fun _ _ _ => rfl) (fun _ => rfl) (fun _ _ => rfl) t d
theorem before5_3 (c : Dev nD) (t : Fin cfg5.N) (d) : (dat5 V c).before 3 t d = iblk5 V c 3 t :=
  before_block (dat5 V c) 3 (iblk5 V c 3) rfl (fun _ => rfl) (fun _ _ _ => rfl) (fun _ => rfl) (fun _ _ => rfl) t d
theorem before5_4 (c : Dev nD) (t : Fin cfg5.N) (d) : (dat5 V c).before 4 t d = iblk5 V c 4 t :=
  before_block (dat5 V c) 4 (iblk5 V c 4) rfl (fun _ => rfl) (fun _ _ _ => rfl) (fun _ => rfl) (fun _ _ => rfl) t d
theorem before5_5 (c : Dev nD) (t : Fin cfg5.N) (d) : (dat5 V c).before 5 t d = iblk5 V c 5 t :=
  before_block (dat5 V c) 5 (iblk5 V c 5) rfl (fun _ => rfl) (fun _ _ _ => rfl) (fun _ => rfl) (fun _ _ => rfl) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at any point: the inputs' memrefs hold their blocks, so its triple applies; the invariant passes through. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row5 (t : Fin cfg5.N) : defs₀ (F := F) .tc cfg5.body (cfg5.bodyArgs t (cfg5.slots t)) = bodyAt5 t := by
  unfold defs₀; rw [Defs.onTc_tc]

/-- The body obligation of the region, at every point. -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

/-- The scoped buffers no window stages and the generator register are the invariant, before the first point -/
theorem hin5 (c : Dev nD) : iprop((∃ r, prngReg c r) ∗ Pipeline.scopedRest (Ix := Unit) (Name := ℕ) (U := UR sig nD τ) (Lvl := ℕ) (Val := Elt F) spec5 c) ⊢ (dat5 V c).Φ 0 := by
  rw [show (dat5 V c).Φ 0 = Pipeline.ΦA spec5 c from rfl]; unfold Pipeline.ΦA
  iintro ⟨Hp, Hr⟩
  isplitl [Hr]; · iexact Hr
  iexact Hp

/-- and after the last. -/
theorem hout5 (c : Dev nD) : (dat5 V c).Φ (Fin.last cfg5.N) ⊢ iprop((∃ r, prngReg c r) ∗ Pipeline.scopedRest (Ix := Unit) (Name := ℕ) (U := UR sig nD τ) (Lvl := ℕ) (Val := Elt F) spec5 c) := by
  rw [show (dat5 V c).Φ (Fin.last cfg5.N) = Pipeline.ΦA spec5 c from rfl]; unfold Pipeline.ΦA
  iintro ⟨Hr, Hp⟩
  isplitl [Hp]; · iexact Hp
  iexact Hr

end Cert.KernelIdeal.Conv
-- ==== Proof.Seg.lean ====
module
public import proofs.«01_k».proof.Proof.Layers
public import proofs.«01_k».proof.Proof.RegionEnds
public import proofs.«01_k».proof.Proof.Gen.KernelIdeal.Regions
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
@[expose] public section
set_option maxRecDepth 16384
noncomputable section
namespace Cert.KernelIdeal.Conv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
variable {F : FTy → Type} [FloatOps F]
local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the core's generator register at some state and its dues, at nothing. -/
abbrev R (c : Dev nD) : sProp 𝕄 := iprop((∃ r, prngReg c r) ∗ ∃ W, owes (c : Thread nD τ) (0 : CellTallies nD τ sig Unit) W)

/-- The proof data of every pipeline. -/
abbrev Dats : Type := (p : Fin 6) → (c : Dev nD) → Dat τ (Elt F) Unit ℕ (UR sig nD τ) ℕ (Pipeline.pin (pcfgs (F := F)) adm p) c

/-- The reference of a pipeline's window's array. -/
abbrev aref (p : Fin 6) (w : Fin (Pipeline.pin (pcfgs (F := F)) adm p).W) : Ref sig .tc := Pipeline.arrRef (Pipeline.pin (pcfgs (F := F)) adm p).spec w

/-- A region's exit contents: its output array at what the pipeline leaves, every other buffer as entered. -/
abbrev exitV (pd : Dats (F := F)) (p : Fin 6) (wo : Fin (Pipeline.pin (pcfgs (F := F)) adm p).W) (W : Dev nD → Valuation τ sig (Elt F)) (c : Dev nD) : Valuation τ sig (Elt F) :=
  Function.update (W c) (Proc.devRef .tc (aref (F := F) p wo)) ((pd p c).arrAt wo (Pipeline.pin (pcfgs (F := F)) adm p).N)

set_option backward.isDefEq.respectTransparency.types false in
/-- A region as a segment: entered from every unscoped buffer at `W`, left with the output window's array changed and nothing else. -/
def mkReg (pd : Dats (F := F)) (p : Fin 6) (wo : Fin (Pipeline.pin (pcfgs (F := F)) adm p).W) (W : Dev nD → Valuation τ sig (Elt F))
    (hl : Pipeline.LaunchFacts (nD := nD) (τ := τ) cfgs p)
    (hout1 : ∀ w, w ≠ wo → ((Pipeline.pin (pcfgs (F := F)) adm p).win w).isOut = false)
    (hA : ∀ c w, (pd p c).A w = W c (Proc.devRef .tc (aref (F := F) p w)))
    (hq : ∀ c w, (pd p c).q w = fullShare) (ho : ∀ c t, (pd p c).owed t = 0) (hr : ∀ c x, x ∈ (pd p c).recorded 0)
    (hbody : ∀ c, BodyObligation (pd p c) defs₀ 𝒱₀ () Set.univ)
    (hin : ∀ c, iprop((∃ r, prngReg c r) ∗ Pipeline.scopedRest (Ix := Unit) (Name := ℕ) (U := UR sig nD τ) (Lvl := ℕ) (Val := Elt F) (Pipeline.pin (pcfgs (F := F)) adm p).spec c) ⊢ (pd p c).Φ 0)
    (hout : ∀ c, (pd p c).Φ (Fin.last (Pipeline.pin (pcfgs (F := F)) adm p).N) ⊢ iprop((∃ r, prngReg c r) ∗ Pipeline.scopedRest (Ix := Unit) (Name := ℕ) (U := UR sig nD τ) (Lvl := ℕ) (Val := Elt F) (Pipeline.pin (pcfgs (F := F)) adm p).spec c)) :
    Pipeline.RegionSeg (pcfgs (F := F)) adm pd () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p ho
  pre c := iprop(StableHlo.held (c : Thread nD τ) (Pipeline.ucRefs τ sig) (W c) ∗ R c)
  post c := iprop(StableHlo.held (c : Thread nD τ) (Pipeline.ucRefs τ sig) (exitV pd p wo W c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => W c b)
  hentry c := by
    rw [Pipeline.ownSems0_none]
    have hsplit := Pipeline.arrays_of_unscopedBufs (p := p) (pcfgs (F := F)) adm pd hl.win hl.arr_whole c
      ((pd p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun _ _ => Or.inl (hr c _)
      iexact HO
    isplitl [Hp]; · iexact Hp
    iexact Hrest
  hin c := by
    refine .trans ?_ (hin c)
    iintro ⟨Hp, -, Hr⟩
    isplitl [Hp]; · iexact Hp
    iexact Hr
  hout c := by
    rw [Pipeline.ownSems0_none]
    refine (hout c).trans ?_
    iintro ⟨Hp, Hr⟩
    isplitl [Hp]; · iexact Hp
    isplitr; · iempintro
    iexact Hr
  hexit c := by
    have hF : ∀ w, (pd p c).arrAt w (Pipeline.pin (pcfgs (F := F)) adm p).N = exitV pd p wo W c (Proc.devRef .tc (aref (F := F) p w)) := fun w => by
      by_cases hw : w = wo
      · subst hw; exact (Function.update_self (Proc.devRef .tc (aref (F := F) p w)) ((pd p c).arrAt w (Pipeline.pin (pcfgs (F := F)) adm p).N) (W c)).symm
      · refine (((pd p c).arrAt_in w (hout1 w hw) _).trans (hA c w)).trans (Function.update_of_ne ?_ _ _).symm
        intro e
        exact hw (hl.win.arr_inj (Proc.devRef_injective _ e))
    have hrest : ∀ b, b ∉ Finset.univ.image (aref (F := F) p) → exitV pd p wo W c (Proc.devRef .tc b) = W c (Proc.devRef .tc b) := fun b hb => by
      refine Function.update_of_ne ?_ _ _
      intro e
      exact hb (Finset.mem_image.mpr ⟨wo, Finset.mem_univ _, (Proc.devRef_injective _ e).symm⟩)
    have hjoin := Pipeline.unscopedBufs_of_arrays (p := p) (pcfgs (F := F)) adm (Ix := Unit) (Name := ℕ) (U := UR sig nD τ) (Lvl := ℕ)
      hl.win hl.arr_whole c pd ((pd p c).share_full (hq c))
      (fun b => W c b) (fun b => exitV pd p wo W c b) ((pd p c).arrAt · (Pipeline.pin (pcfgs (F := F)) adm p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

end Cert.KernelIdeal.Conv
-- ==== Proof.Run.lean ====
module
public import proofs.«01_k».proof.Proof.Seg
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
@[expose] public section
set_option maxRecDepth 16384
noncomputable section
namespace Cert.KernelIdeal.Conv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
variable {F : FTy → Type} [FloatOps F]
local notation "𝕄" => MT nD τ sig Unit (Elt F) ℕ (UR sig nD τ) ℕ
variable (m : (ℓ : Loc nD τ sig) → Buf (Elt F) ℓ)

/-! The buffers between the items of the program: `W0` at launch, `W1` after the first host stretch, `W2` after the first region, and so on. -/

def W0 (c : Dev nD) : Valuation τ sig (Elt F) := fun b => m (c, b)
def W1 (c : Dev nD) : Valuation τ sig (Elt F) := StableHlo.after hostOps0 (W0 m c)
/-- The contents region 0 finds. -/
abbrev V0 : (c : Dev nD) → (b : Ref sig .tc) → Buf (Elt F) ((c : Thread nD τ).loc b) := fun c b => W1 m c b
def W2 (c : Dev nD) : Valuation τ sig (Elt F) :=
  Function.update (W1 m c) (Proc.devRef .tc main_v2) ((dat0 (V0 m) c).arrAt 2 cfg0.N)
def W3 (c : Dev nD) : Valuation τ sig (Elt F) := StableHlo.after hostOps1 (W2 m c)
/-- The contents region 1 finds. -/
abbrev V1 : (c : Dev nD) → (b : Ref sig .tc) → Buf (Elt F) ((c : Thread nD τ).loc b) := fun c b => W3 m c b
def W4 (c : Dev nD) : Valuation τ sig (Elt F) :=
  Function.update (W3 m c) (Proc.devRef .tc main_v31) ((dat1 (V1 m) c).arrAt 5 cfg1.N)
def W5 (c : Dev nD) : Valuation τ sig (Elt F) := StableHlo.after hostOps2 (W4 m c)
/-- The contents region 2 finds. -/
abbrev V2 : (c : Dev nD) → (b : Ref sig .tc) → Buf (Elt F) ((c : Thread nD τ).loc b) := fun c b => W5 m c b
def W6 (c : Dev nD) : Valuation τ sig (Elt F) :=
  Function.update (W5 m c) (Proc.devRef .tc main_v47) ((dat2 (V2 m) c).arrAt 5 cfg2.N)
def W7 (c : Dev nD) : Valuation τ sig (Elt F) := StableHlo.after hostOps3 (W6 m c)
/-- The contents region 3 finds. -/
abbrev V3 : (c : Dev nD) → (b : Ref sig .tc) → Buf (Elt F) ((c : Thread nD τ).loc b) := fun c b => W7 m c b
def W8 (c : Dev nD) : Valuation τ sig (Elt F) :=
  Function.update (W7 m c) (Proc.devRef .tc main_v63) ((dat3 (V3 m) c).arrAt 5 cfg3.N)
def W9 (c : Dev nD) : Valuation τ sig (Elt F) := StableHlo.after hostOps4 (W8 m c)
/-- The contents region 4 finds. -/
abbrev V4 : (c : Dev nD) → (b : Ref sig .tc) → Buf (Elt F) ((c : Thread nD τ).loc b) := fun c b => W9 m c b
def W10 (c : Dev nD) : Valuation τ sig (Elt F) :=
  Function.update (W9 m c) (Proc.devRef .tc main_v79) ((dat4 (V4 m) c).arrAt 5 cfg4.N)
def W11 (c : Dev nD) : Valuation τ sig (Elt F) := StableHlo.after hostOps5 (W10 m c)
/-- The contents region 5 finds. -/
abbrev V5 : (c : Dev nD) → (b : Ref sig .tc) → Buf (Elt F) ((c : Thread nD τ).loc b) := fun c b => W11 m c b
def W12 (c : Dev nD) : Valuation τ sig (Elt F) :=
  Function.update (W11 m c) (Proc.devRef .tc main_v83) ((dat5 (V5 m) c).arrAt 6 cfg5.N)
def W13 (c : Dev nD) : Valuation τ sig (Elt F) := StableHlo.after hostOps6 (W12 m c)

/-- Every pipeline's proof data, each at its region's entry contents. -/
def pdats : Dats (F := F)
  | ⟨0, _⟩ => fun c => dat0 (V0 m) c
  | ⟨1, _⟩ => fun c => dat1 (V1 m) c
  | ⟨2, _⟩ => fun c => dat2 (V2 m) c
  | ⟨3, _⟩ => fun c => dat3 (V3 m) c
  | ⟨4, _⟩ => fun c => dat4 (V4 m) c
  | ⟨5, _⟩ => fun c => dat5 (V5 m) c

/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- Region 0 as a segment. -/
def reg0 : Pipeline.RegionSeg (pcfgs (F := F)) adm (pdats m) () defs₀ 𝒱₀ L lv 0 :=
  mkReg (pdats m) 0 (2 : Fin cfg0.W) (W1 m) launch0
    (show ∀ w : Fin cfg0.W, w ≠ 2 → (cfg0.win w).isOut = false from by decide)
    (fun c w => A_eq0 (V0 m) c w) (fun _ _ => rfl) (fun _ _ => rfl) (fun _ _ => trivial)
    (fun c => body_obligation0 (V0 m) c) (fun c => hin0 (V0 m) c) (fun c => hout0 (V0 m) c)

set_option backward.isDefEq.respectTransparency.types false in
/-- Region 1 as a segment. -/
def reg1 : Pipeline.RegionSeg (pcfgs (F := F)) adm (pdats m) () defs₀ 𝒱₀ L lv 1 :=
  mkReg (pdats m) 1 (5 : Fin cfg1.W) (W3 m) launch1
    (show ∀ w : Fin cfg1.W, w ≠ 5 → (cfg1.win w).isOut = false from by decide)
    (fun c w => A_eq1 (V1 m) c w) (fun _ _ => rfl) (fun _ _ => rfl) (fun _ _ => trivial)
    (fun c => body_obligation1 (V1 m) c) (fun c => hin1 (V1 m) c) (fun c => hout1 (V1 m) c)

set_option backward.isDefEq.respectTransparency.types false in
/-- Region 2 as a segment. -/
def reg2 : Pipeline.RegionSeg (pcfgs (F := F)) adm (pdats m) () defs₀ 𝒱₀ L lv 2 :=
  mkReg (pdats m) 2 (5 : Fin cfg2.W) (W5 m) launch2
    (show ∀ w : Fin cfg2.W, w ≠ 5 → (cfg2.win w).isOut = false from by decide)
    (fun c w => A_eq2 (V2 m) c w) (fun _ _ => rfl) (fun _ _ => rfl) (fun _ _ => trivial)
    (fun c => body_obligation2 (V2 m) c) (fun c => hin2 (V2 m) c) (fun c => hout2 (V2 m) c)

set_option backward.isDefEq.respectTransparency.types false in
/-- Region 3 as a segment. -/
def reg3 : Pipeline.RegionSeg (pcfgs (F := F)) adm (pdats m) () defs₀ 𝒱₀ L lv 3 :=
  mkReg (pdats m) 3 (5 : Fin cfg3.W) (W7 m) launch3
    (show ∀ w : Fin cfg3.W, w ≠ 5 → (cfg3.win w).isOut = false from by decide)
    (fun c w => A_eq3 (V3 m) c w) (fun _ _ => rfl) (fun _ _ => rfl) (fun _ _ => trivial)
    (fun c => body_obligation3 (V3 m) c) (fun c => hin3 (V3 m) c) (fun c => hout3 (V3 m) c)

set_option backward.isDefEq.respectTransparency.types false in
/-- Region 4 as a segment. -/
def reg4 : Pipeline.RegionSeg (pcfgs (F := F)) adm (pdats m) () defs₀ 𝒱₀ L lv 4 :=
  mkReg (pdats m) 4 (5 : Fin cfg4.W) (W9 m) launch4
    (show ∀ w : Fin cfg4.W, w ≠ 5 → (cfg4.win w).isOut = false from by decide)
    (fun c w => A_eq4 (V4 m) c w) (fun _ _ => rfl) (fun _ _ => rfl) (fun _ _ => trivial)
    (fun c => body_obligation4 (V4 m) c) (fun c => hin4 (V4 m) c) (fun c => hout4 (V4 m) c)

set_option backward.isDefEq.respectTransparency.types false in
/-- Region 5 as a segment. -/
def reg5 : Pipeline.RegionSeg (pcfgs (F := F)) adm (pdats m) () defs₀ 𝒱₀ L lv 5 :=
  mkReg (pdats m) 5 (6 : Fin cfg5.W) (W11 m) launch5
    (show ∀ w : Fin cfg5.W, w ≠ 6 → (cfg5.win w).isOut = false from by decide)
    (fun c w => A_eq5 (V5 m) c w) (fun _ _ => rfl) (fun _ _ => rfl) (fun _ _ => trivial)
    (fun c => body_obligation5 (V5 m) c) (fun c => hin5 (V5 m) c) (fun c => hout5 (V5 m) c)

/-- The program's segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)) ]

/-- The program is the run of the segments. -/
theorem main_run (c : Dev nD) : main (F := F) c = Pipeline.Seg.run (segs m) := (main_chain c).trans (by chain_rfl)

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues. -/
abbrev Tₙ (c : Dev nD) : sProp 𝕄 := iprop(StableHlo.held (c : Thread nD τ) (Pipeline.ucRefs τ sig) (W13 m c) ∗ ∃ r, prngReg c r)

set_option backward.isDefEq.respectTransparency.types false in
/-- Every run from a memory with zero counters terminates without fault, ends with every unscoped buffer at `W13`, and every counter at zero. -/
theorem run (ρ : Dev nD → PrngReg) : θ_run defs (onTc (τ := τ) (main (F := F))) ⟨m, fun _ => 0, ρ⟩ (fun r => (∀ c : Dev nD,
      ∀ b ∈ Pipeline.ucRefs τ sig, r.2.mem (c, b) = W13 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W13 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h hz => ⟨h, funext fun g => hz g (.inr (regions_no_unscoped g.2))⟩)

end Cert.KernelIdeal.Conv
-- ==== Proof.Frame.lean ====
module
public import proofs.«01_k».proof.Proof.Run
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow
@[expose] public section
set_option maxRecDepth 16384
noncomputable section
namespace Cert.KernelIdeal.Conv
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
variable {F : FTy → Type} [FloatOps F]
variable (m : (ℓ : Loc nD τ sig) → Buf (Elt F) ℓ)

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ≠ main_v2) : W2 m c (Proc.devRef .tc r) = W1 m c (Proc.devRef .tc r) := by
  unfold W2
  exact Function.update_of_ne (StableHlo.devRef_ne_of_ne h) _ _
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : r ≠ main_v31) : W4 m c (Proc.devRef .tc r) = W3 m c (Proc.devRef .tc r) := by
  unfold W4
  exact Function.update_of_ne (StableHlo.devRef_ne_of_ne h) _ _
theorem W5_of (c : Dev nD) (r : Ref sig .tc) (h : r ∉ hostOps2_W) : W5 m c (Proc.devRef .tc r) = W4 m c (Proc.devRef .tc r) :=
  StableHlo.after_of_writes_sub hostOps2 _ hostOps2_writes h
theorem W6_of (c : Dev nD) (r : Ref sig .tc) (h : r ≠ main_v47) : W6 m c (Proc.devRef .tc r) = W5 m c (Proc.devRef .tc r) := by
  unfold W6
  exact Function.update_of_ne (StableHlo.devRef_ne_of_ne h) _ _
theorem W7_of (c : Dev nD) (r : Ref sig .tc) (h : r ∉ hostOps3_W) : W7 m c (Proc.devRef .tc r) = W6 m c (Proc.devRef .tc r) :=
  StableHlo.after_of_writes_sub hostOps3 _ hostOps3_writes h
theorem W8_of (c : Dev nD) (r : Ref sig .tc) (h : r ≠ main_v63) : W8 m c (Proc.devRef .tc r) = W7 m c (Proc.devRef .tc r) := by
  unfold W8
  exact Function.update_of_ne (StableHlo.devRef_ne_of_ne h) _ _
theorem W9_of (c : Dev nD) (r : Ref sig .tc) (h : r ∉ hostOps4_W) : W9 m c (Proc.devRef .tc r) = W8 m c (Proc.devRef .tc r) :=
  StableHlo.after_of_writes_sub hostOps4 _ hostOps4_writes h
theorem W10_of (c : Dev nD) (r : Ref sig .tc) (h : r ≠ main_v79) : W10 m c (Proc.devRef .tc r) = W9 m c (Proc.devRef .tc r) := by
  unfold W10
  exact Function.update_of_ne (StableHlo.devRef_ne_of_ne h) _ _
theorem W11_of (c : Dev nD) (r : Ref sig .tc) (h : r ∉ hostOps5_W) : W11 m c (Proc.devRef .tc r) = W10 m c (Proc.devRef .tc r) :=
  StableHlo.after_of_writes_sub hostOps5 _ hostOps5_writes h
theorem W12_of (c : Dev nD) (r : Ref sig .tc) (h : r ≠ main_v83) : W12 m c (Proc.devRef .tc r) = W11 m c (Proc.devRef .tc r) := by
  unfold W12
  exact Function.update_of_ne (StableHlo.devRef_ne_of_ne h) _ _
theorem W13_of (c : Dev nD) (r : Ref sig .tc) (h : r ∉ hostOps6_W) : W13 m c (Proc.devRef .tc r) = W12 m c (Proc.devRef .tc r) :=
  StableHlo.after_of_writes_sub hostOps6 _ hostOps6_writes h

/-- A reference nothing writes. -/
abbrev Untouched (r : Ref sig .tc) : Prop :=
  (r ∉ hostOps0_W ∧ r ∉ hostOps1_W ∧ r ∉ hostOps2_W ∧ r ∉ hostOps3_W ∧ r ∉ hostOps4_W ∧ r ∉ hostOps5_W ∧ r ∉ hostOps6_W)
    ∧ r ≠ main_v2 ∧ r ≠ main_v31 ∧ r ≠ main_v47 ∧ r ≠ main_v63 ∧ r ≠ main_v79 ∧ r ≠ main_v83

/-- Such a reference ends as it started. -/
theorem W13_keep (c : Dev nD) (r : Ref sig .tc) (h : Untouched r) : W13 m c (Proc.devRef .tc r) = m ((c : Thread nD τ).loc r) := by
  obtain ⟨⟨h0, h1, h2, h3, h4, h5, h6⟩, g0, g1, g2, g3, g4, g5⟩ := h
  rw [W13_of m c r h6, W12_of m c r g5, W11_of m c r h5, W10_of m c r g4, W9_of m c r h4, W8_of m c r g3, W7_of m c r h3,
    W6_of m c r g2, W5_of m c r h2, W4_of m c r g1, W3_of m c r h1, W2_of m c r g0, W1_of m c r h0]
  rfl

/-- The final memory at a reference. -/
theorem final_at {s : MemSt nD τ sig (Elt F)} {c : Dev nD} (h : ∀ b ∈ Pipeline.ucRefs τ sig, s.mem (c, b) = W13 m c b) (r : Ref sig .tc)
    (hr : ¬ (Proc.devRef .tc r : DevRef τ sig).isScoped) : s.mem ((c.tc : Thread nD τ).loc r) = W13 m c (Proc.devRef .tc r) := h _ (mem_uc r hr)

/-- An argument ends as it started. -/
theorem final_arg {s : MemSt nD τ sig (Elt F)} {c : Dev nD} (h : ∀ b ∈ Pipeline.ucRefs τ sig, s.mem (c, b) = W13 m c b) (r : Ref sig .tc)
    (hr : ¬ (Proc.devRef .tc r : DevRef τ sig).isScoped) (hu : Untouched r) :
    s.mem ((c.tc : Thread nD τ).loc r) = m ((c.tc : Thread nD τ).loc r) := (final_at m h r hr).trans (W13_keep m c r hu)

/-- What a run says of its end, with the arguments read. -/
theorem run_args (ρ : Dev nD → PrngReg) : θ_run defs (onTc (τ := τ) (main (F := F))) ⟨m, fun _ => 0, ρ⟩ (fun r => (∀ c : Dev nD,
      (∀ b ∈ Pipeline.ucRefs τ sig, r.2.mem (c, b) = W13 m c b)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨h.1 c,
    final_arg m (h.1 c) main_arg0 (by decide) (by decide),
    final_arg m (h.1 c) main_arg1 (by decide) (by decide),
    final_arg m (h.1 c) main_arg2 (by decide) (by decide),
    final_arg m (h.1 c) main_arg3 (by decide) (by decide),
    final_arg m (h.1 c) main_arg4 (by decide) (by decide),
    final_arg m (h.1 c) main_arg5 (by decide) (by decide),
    final_arg m (h.1 c) main_arg6 (by decide) (by decide),
    final_arg m (h.1 c) main_arg7 (by decide) (by decide),
    final_arg m (h.1 c) main_arg8 (by decide) (by decide),
    final_arg m (h.1 c) main_arg9 (by decide) (by decide)⟩, h.2⟩) (run m ρ)

/-- Every run ends with the arguments as they were and every counter at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => (h.1 c).2, h.2⟩) (run_args m ρ)

end Cert.KernelIdeal.Conv
-- ==== Proof.KernelFrame.lean ====
module

public import proofs.«01_k».proof.Proof.Frame
public import proofs.«01_k».proof.Proof.Gen.Kernel

@[expose] public section

noncomputable section

namespace Cert.Kernel.Conv

open Idealize.ShloMosaic Idealize.ShloMosaic.TcCoe Idealize.SL.Sem

/-- The frame of the kernel, at any float values. -/
def Frame (F : FTy → Type) [FloatOps F] : Prop := ∀ (m : (ℓ : Loc Cert.Kernel.nD Cert.Kernel.τ Cert.Kernel.sig) → Buf (Elt F) ℓ) (ρ : Dev Cert.Kernel.nD → PrngReg),
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

/-- The frame of its idealization, at any float values. -/
def FrameIdeal (F : FTy → Type) [FloatOps F] : Prop := ∀ (m : (ℓ : Loc Cert.KernelIdeal.nD Cert.KernelIdeal.τ Cert.KernelIdeal.sig) → Buf (Elt F) ℓ) (ρ : Dev Cert.KernelIdeal.nD → PrngReg),
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

/-- The printed kernel and its idealization are one program text, so the two statements are one. -/
theorem frame_eq (F : FTy → Type) [FloatOps F] : Frame F = FrameIdeal F := by chain_rfl

/-- The frame of the kernel. -/
theorem frame (F : FTy → Type) [FloatOps F] : Frame F := (frame_eq F).mpr fun m ρ => Cert.KernelIdeal.Conv.frame m ρ

end Cert.Kernel.Conv
-- ==== Proof.RefFrame.lean ====
module

public import proofs.«01_k».proof.Proof.Gen.ReferenceIdeal.Run
public import Idealize.ShloMosaic.Lib.Quiescent

@[expose] public section

noncomputable section

namespace Cert.ReferenceIdeal.Conv

open Cert.ReferenceIdeal Cert.ReferenceIdeal.Gen Idealize.ShloMosaic Idealize.ShloMosaic.TcCoe Idealize.SL.Sem

variable {F : FTy → Type} [FloatOps F]

/-- Every run of the reference ends with the arguments as they were and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => (h c).2.2, sem_eq_zero_of_no_sems (by decide) r.2⟩) (Cert.ReferenceIdeal.Value.run m ρ)

end Cert.ReferenceIdeal.Conv
-- ==== Proof.Arith.lean ====
module
public import Mathlib.Data.EReal.Operations
public import Mathlib.Algebra.BigOperators.Group.Finset.Basic
public import Mathlib.Algebra.BigOperators.Ring.Finset
public import Mathlib.Tactic.Ring
public import Mathlib.Tactic.Linarith
@[expose] public section
noncomputable section
namespace Cert.Conv

section
variable {α : Type} [AddCommMonoid α] [Mul α]

/-- One tap of the convolution: the sum over the channels at a place of the padded image. -/
def tap (X : ℕ → ℕ → Fin 96 → α) (w : Fin 3 → Fin 3 → Fin 96 → α) (r q : ℕ) (dy dx : Fin 3) : α :=
  ∑ c, X r q c * w dy dx c

/-- The nine taps at a pixel, in the order the programs add them. -/
def conv (X : ℕ → ℕ → Fin 96 → α) (w : Fin 3 → Fin 3 → Fin 96 → α) (y x : ℕ) : α :=
  tap X w y x 0 0 + tap X w y (1 + x) 0 1 + tap X w y (2 + x) 0 2
    + tap X w (1 + y) x 1 0 + tap X w (1 + y) (1 + x) 1 1 + tap X w (1 + y) (2 + x) 1 2
    + tap X w (2 + y) x 2 0 + tap X w (2 + y) (1 + x) 2 1 + tap X w (2 + y) (2 + x) 2 2

/-- An image with a border of zeros one wide. -/
def border (A : Fin 224 → Fin 224 → Fin 96 → α) (r q : ℕ) (c : Fin 96) : α :=
  if h : (1 ≤ r ∧ r ≤ 224) ∧ 1 ≤ q ∧ q ≤ 224 then A ⟨r - 1, by omega⟩ ⟨q - 1, by omega⟩ c else 0
end

/-- A finite sum of reals, each read as an extended real, is the sum read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) b := by
  rcases le_total a b with h | h
  · rw [max_eq_right h, max_eq_right (EReal.coe_le_coe_iff.mpr h)]
  · rw [max_eq_left h, max_eq_left (EReal.coe_le_coe_iff.mpr h)]

theorem border_coe (A : Fin 224 → Fin 224 → Fin 96 → ℝ) (r q : ℕ) (c : Fin 96) :
    border (fun r q c => ((A r q c : ℝ) : EReal)) r q c = ((border A r q c : ℝ) : EReal) := by
  unfold border
  split
  · rfl
  · exact EReal.coe_zero.symm

theorem tap_coe (X : ℕ → ℕ → Fin 96 → ℝ) (w : Fin 3 → Fin 3 → Fin 96 → ℝ) (r q : ℕ) (dy dx : Fin 3) :
    tap (fun r q c => (X r q c : EReal)) (fun a b c => (w a b c : EReal)) r q dy dx = ((tap X w r q dy dx : ℝ) : EReal) := by
  unfold tap
  rw [coe_sum]
  exact Finset.sum_congr rfl fun c _ => (EReal.coe_mul _ _).symm

theorem conv_coe (X : ℕ → ℕ → Fin 96 → ℝ) (w : Fin 3 → Fin 3 → Fin 96 → ℝ) (y x : ℕ) :
    conv (fun r q c => (X r q c : EReal)) (fun a b c => (w a b c : EReal)) y x = ((conv X w y x : ℝ) : EReal) := by
  unfold conv
  simp only [tap_coe, EReal.coe_add]

/-- The convolution of a real image under a real filter, read in the extended reals. -/
theorem conv_border_coe (A : Fin 224 → Fin 224 → Fin 96 → ℝ) (w : Fin 3 → Fin 3 → Fin 96 → ℝ) (y x : ℕ) :
    conv (border fun r q c => ((A r q c : ℝ) : EReal)) (fun a b c => (w a b c : EReal)) y x = ((conv (border A) w y x : ℝ) : EReal) := by
  rw [show (border fun r q c => ((A r q c : ℝ) : EReal)) = fun r q c => ((border A r q c : ℝ) : EReal) from
    funext fun r => funext fun q => funext fun c => border_coe A r q c]
  exact conv_coe _ _ _ _

/-- Scaling the image's channels is scaling the filter's. -/
theorem conv_scale (A : Fin 224 → Fin 224 → Fin 96 → ℝ) (d : Fin 96 → ℝ) (w : Fin 3 → Fin 3 → Fin 96 → ℝ) (y x : ℕ) :
    conv (border fun r q c => A r q c * d c) w y x = conv (border A) (fun a b c => w a b c * d c) y x := by
  have h : ∀ r q a b, tap (border fun r q c => A r q c * d c) w r q a b = tap (border A) (fun a b c => w a b c * d c) r q a b := by
    intro r q a b
    unfold tap border
    refine Finset.sum_congr rfl fun c _ => ?_
    split <;> ring
  unfold conv
  simp only [h]

/-- Two complementary scalings of the image add up to the image. -/
theorem conv_split (A : Fin 224 → Fin 224 → Fin 96 → ℝ) (d s : Fin 96 → ℝ) (hds : ∀ c, d c + s c = 1) (w : Fin 3 → Fin 3 → Fin 96 → ℝ) (y x : ℕ) :
    conv (border fun r q c => A r q c * d c) w y x + conv (border fun r q c => A r q c * s c) w y x = conv (border A) w y x := by
  have h : ∀ r q a b, tap (border fun r q c => A r q c * d c) w r q a b + tap (border fun r q c => A r q c * s c) w r q a b
      = tap (border A) w r q a b := by
    intro r q a b
    unfold tap border
    rw [← Finset.sum_add_distrib]
    refine Finset.sum_congr rfl fun c _ => ?_
    split
    · rw [← add_mul, ← mul_add, hds, mul_one]
    · ring
  unfold conv
  simp only [← h]
  ring

/-- The first layer over the reals. -/
def first (A : Fin 224 → Fin 224 → Fin 96 → ℝ) (w : Fin 3 → Fin 3 → Fin 96 → ℝ) (d s p : ℝ) (y x : ℕ) : ℝ :=
  max (conv (border A) w y x * (d + p * s)) 0

/-- A later layer over the reals. -/
def later (A : Fin 224 → Fin 224 → Fin 96 → ℝ) (w : Fin 3 → Fin 3 → Fin 96 → ℝ) (d' : Fin 96 → ℝ) (d s p : ℝ) (y x : ℕ) : ℝ :=
  max (conv (border A) w y x * (p * (d + s)) + conv (border A) (fun a b c => w a b c * d' c) y x * ((1 - p) * d)) 0

/-- The first layer as the kernel computes it. -/
theorem first_kernel (A : Fin 224 → Fin 224 → Fin 96 → ℝ) (w : Fin 3 → Fin 3 → Fin 96 → ℝ) (d s p : ℝ) (y x : ℕ) :
    max (conv (border fun r q c => ((A r q c : ℝ) : EReal)) (fun a b c => (w a b c : EReal)) y x * ((d : EReal) + p * s)) 0
      = ((first A w d s p y x : ℝ) : EReal) := by
  unfold first
  rw [conv_border_coe, coe_max, EReal.coe_mul, EReal.coe_add, EReal.coe_mul, EReal.coe_zero]

/-- The first layer as the reference computes it. -/
theorem first_reference (A : Fin 224 → Fin 224 → Fin 96 → ℝ) (w : Fin 3 → Fin 3 → Fin 96 → ℝ) (d s p : ℝ) (y x : ℕ) :
    max (conv (border fun r q c => ((A r q c : ℝ) : EReal)) (fun a b c => (w a b c : EReal)) y x * (s : EReal) * p
        + conv (border fun r q c => ((A r q c : ℝ) : EReal)) (fun a b c => (w a b c : EReal)) y x * d) 0
      = ((first A w d s p y x : ℝ) : EReal) := by
  unfold first
  rw [conv_border_coe, coe_max, EReal.coe_zero, show conv (border A) w y x * (d + p * s) = conv (border A) w y x * s * p + conv (border A) w y x * d by ring]
  simp only [EReal.coe_mul, EReal.coe_add]

/-- A later layer as the kernel computes it. -/
theorem later_kernel (A : Fin 224 → Fin 224 → Fin 96 → ℝ) (w : Fin 3 → Fin 3 → Fin 96 → ℝ) (d' : Fin 96 → ℝ) (d s p : ℝ) (y x : ℕ) :
    max (conv (border fun r q c => ((A r q c : ℝ) : EReal)) (fun a b c => (w a b c : EReal)) y x * ((p : EReal) * ((d : EReal) + s))
        + conv (border fun r q c => ((A r q c : ℝ) : EReal)) (fun a b c => (w a b c : EReal) * (d' c : EReal)) y x * ((1 - (p : EReal)) * d)) 0
      = ((later A w d' d s p y x : ℝ) : EReal) := by
  unfold later
  have h : (fun a b c => (w a b c : EReal) * (d' c : EReal)) = fun (a b : Fin 3) c => ((w a b c * d' c : ℝ) : EReal) :=
    funext fun a => funext fun b => funext fun c => (EReal.coe_mul _ _).symm
  rw [h, conv_border_coe, conv_border_coe, coe_max, EReal.coe_zero]
  simp only [EReal.coe_mul, EReal.coe_add, EReal.coe_sub, EReal.coe_one]

/-- A later layer as the reference computes it. -/
theorem later_reference (A : Fin 224 → Fin 224 → Fin 96 → ℝ) (w : Fin 3 → Fin 3 → Fin 96 → ℝ) (d' s' : Fin 96 → ℝ) (hds : ∀ c, d' c + s' c = 1)
    (d s p : ℝ) (y x : ℕ) :
    max (conv (border fun r q c => ((A r q c : ℝ) : EReal) * (d' c : EReal)) (fun a b c => (w a b c : EReal)) y x * (s : EReal) * p
        + conv (border fun r q c => ((A r q c : ℝ) : EReal) * (d' c : EReal)) (fun a b c => (w a b c : EReal)) y x * d
        + conv (border fun r q c => ((A r q c : ℝ) : EReal) * (s' c : EReal)) (fun a b c => (w a b c : EReal)) y x * s * p
        + conv (border fun r q c => ((A r q c : ℝ) : EReal) * (s' c : EReal)) (fun a b c => (w a b c : EReal)) y x * d * p) 0
      = ((later A w d' d s p y x : ℝ) : EReal) := by
  have h : ∀ e : Fin 96 → ℝ, (fun r q c => ((A r q c : ℝ) : EReal) * (e c : EReal)) = fun (r q : Fin 224) c => ((A r q c * e c : ℝ) : EReal) :=
    fun e => funext fun r => funext fun q => funext fun c => (EReal.coe_mul _ _).symm
  unfold later
  rw [← conv_scale A d' w y x, ← conv_split A d' s' hds w y x, h, h, conv_border_coe, conv_border_coe, coe_max, EReal.coe_zero]
  generalize conv (border fun r q c => A r q c * d' c) w y x = a
  generalize conv (border fun r q c => A r q c * s' c) w y x = b
  rw [show (a + b) * (p * (d + s)) + a * ((1 - p) * d) = a * s * p + a * d + b * s * p + b * d * p by ring]
  simp only [EReal.coe_mul, EReal.coe_add]

end Cert.Conv
-- ==== Proof.Soft.lean ====
module
public import Idealize.ShloMosaic.PureOps.Ideal.Laws
public import Idealize.ShloMosaic.Lib.Pointwise
public import proofs.«01_k».proof.Proof.Arith
@[expose] public section
noncomputable section
namespace Cert.Conv
open Idealize.ShloMosaic

/-- The mask's parameter with its noise. -/
def noisy (p u : EReal) : EReal := p + -Ideal.log (-Ideal.log u)

/-- The softmax of two values. -/
def soft (z : Fin 2 → EReal) (k : Fin 2) : EReal :=
  Ideal.div (Ideal.exp (z k - max (z 0) (z 1))) (Ideal.exp (z 0 - max (z 0) (z 1)) + Ideal.exp (z 1 - max (z 0) (z 1)))

theorem ofBits_negInf : Ideal.ofBits .f32 0xFF800000#32 = ⊥ := by
  simp [Ideal.ofBits, Ideal.ieee]

theorem fold_two (f : Fin 2 → EReal) : Finset.fold max (Ideal.ofBits .f32 0xFF800000#32) f Finset.univ = max (f 0) (f 1) := by
  rw [ofBits_negInf]
  simp [Finset.univ, Fintype.elems, List.finRange, Fin.foldr, Finset.fold]

theorem div_one (x : EReal) : Ideal.div x 1 = x := by
  unfold Ideal.div
  rw [if_neg one_ne_zero, inv_one, mul_one]

theorem exp_coe (r : ℝ) : Ideal.exp (r : EReal) = ((Real.exp r : ℝ) : EReal) := rfl

/-- At a real parameter and a noise strictly between 0 and 1 the noisy parameter is real. -/
theorem noisy_real (p u : EReal) (hp : ∃ r : ℝ, p = r) (h0 : 0 < u) (h1 : u < 1) : ∃ r : ℝ, noisy p u = r := by
  obtain ⟨p, rfl⟩ := hp
  induction u using EReal.rec with
  | bot => exact absurd h0 (by simp)
  | top => exact absurd h1 (by simp)
  | coe u =>
    have hu0 : 0 < u := by exact_mod_cast h0
    have hu1 : u < 1 := by exact_mod_cast h1
    have e1 : Ideal.log (u : EReal) = ((Real.log u : ℝ) : EReal) := if_neg (not_le.mpr hu0)
    have hl : 0 < -Real.log u := neg_pos.mpr (Real.log_neg hu0 hu1)
    have e2 : Ideal.log ((-Real.log u : ℝ) : EReal) = ((Real.log (-Real.log u) : ℝ) : EReal) := if_neg (not_le.mpr hl)
    refine ⟨p + -Real.log (-Real.log u), ?_⟩
    unfold noisy
    rw [e1, ← EReal.coe_neg, e2, ← EReal.coe_neg, EReal.coe_add]

/-- The softmax of two reals is two reals that add up to one. -/
theorem soft_real (z : Fin 2 → EReal) (hz : ∀ k, ∃ r : ℝ, z k = r) : ∃ d s : ℝ, soft z 0 = d ∧ soft z 1 = s ∧ d + s = 1 := by
  obtain ⟨a, ha⟩ := hz 0
  obtain ⟨b, hb⟩ := hz 1
  have hpos : 0 < Real.exp (a - max a b) + Real.exp (b - max a b) := add_pos (Real.exp_pos _) (Real.exp_pos _)
  have hd : ∀ t : ℝ, Ideal.div (t : EReal) (((Real.exp (a - max a b) + Real.exp (b - max a b) : ℝ)) : EReal)
      = ((t * (Real.exp (a - max a b) + Real.exp (b - max a b))⁻¹ : ℝ) : EReal) := by
    intro t
    unfold Ideal.div
    rw [if_neg (by exact_mod_cast hpos.ne'), EReal.coe_mul, EReal.coe_inv]
  refine ⟨Real.exp (a - max a b) * (Real.exp (a - max a b) + Real.exp (b - max a b))⁻¹,
    Real.exp (b - max a b) * (Real.exp (a - max a b) + Real.exp (b - max a b))⁻¹, ?_, ?_, ?_⟩
  · unfold soft
    rw [ha, hb, ← coe_max, ← EReal.coe_sub, ← EReal.coe_sub, exp_coe, exp_coe, ← EReal.coe_add, hd]
  · unfold soft
    rw [ha, hb, ← coe_max, ← EReal.coe_sub, ← EReal.coe_sub, exp_coe, exp_coe, ← EReal.coe_add, hd]
  · rw [← add_mul, mul_inv_cancel₀ hpos.ne']

end Cert.Conv
-- ==== Proof.TileVal.lean ====
module
public import proofs.«01_k».proof.Proof.Bodies
public import proofs.«01_k».proof.Proof.RegionEnds
public import proofs.«01_k».proof.Proof.Soft
public import Idealize.ShloMosaic.Lib.Pointwise
public import Idealize.ShloMosaic.PureOps.Ideal.Laws
@[expose] public section
set_option maxRecDepth 16384
noncomputable section
namespace Cert.KernelIdeal.Conv
open Idealize.ShloMosaic
open Cert.KernelIdeal.Gen Cert.Conv

/-- The nine sums the bodies add are the convolution of the window they read. -/
theorem conv_of_window (v : Vec Ideal S34x226x96 .bf16) (w : Fin 3 → Fin 3 → Fin 96 → EReal) (X : ℕ → ℕ → Fin 96 → EReal)
    (hX : ∀ (r : Fin 34) (q : Fin 226) (c : Fin 96), v (ix3 r q c) = X r.val q.val c) (y : Fin 32) (x : Fin 224) :
    ∑ c, (v (ix3 ⟨y.val, by omega⟩ ⟨x.val, by omega⟩ c) : EReal) * w 0 0 c
      + ∑ c, (v (ix3 ⟨y.val, by omega⟩ ⟨1 + x.val, by omega⟩ c) : EReal) * w 0 1 c
      + ∑ c, (v (ix3 ⟨y.val, by omega⟩ ⟨2 + x.val, by omega⟩ c) : EReal) * w 0 2 c
      + ∑ c, (v (ix3 ⟨1 + y.val, by omega⟩ ⟨x.val, by omega⟩ c) : EReal) * w 1 0 c
      + ∑ c, (v (ix3 ⟨1 + y.val, by omega⟩ ⟨1 + x.val, by omega⟩ c) : EReal) * w 1 1 c
      + ∑ c, (v (ix3 ⟨1 + y.val, by omega⟩ ⟨2 + x.val, by omega⟩ c) : EReal) * w 1 2 c
      + ∑ c, (v (ix3 ⟨2 + y.val, by omega⟩ ⟨x.val, by omega⟩ c) : EReal) * w 2 0 c
      + ∑ c, (v (ix3 ⟨2 + y.val, by omega⟩ ⟨1 + x.val, by omega⟩ c) : EReal) * w 2 1 c
      + ∑ c, (v (ix3 ⟨2 + y.val, by omega⟩ ⟨2 + x.val, by omega⟩ c) : EReal) * w 2 2 c
      = conv X w y.val x.val := by
  unfold conv tap
  simp only [hX]

/-- A pixel of the first layer's tile. -/
theorem tileS_apply (x3 : Vec Ideal S1x32x224x1 .f32) (x4 : Vec Ideal S3x3x96x96 .f32) (x5 : Vec Ideal S8x96 .f32) (v : Vec Ideal S34x226x96 .bf16)
    (X : ℕ → ℕ → Fin 96 → EReal) (hX : ∀ (r : Fin 34) (q : Fin 226) (c : Fin 96), v (ix3 r q c) = X r.val q.val c)
    (y : Fin 32) (x : Fin 224) (o : Fin 96) :
    tileS x3 x4 x5 v (ix4 0 y x o)
      = max (conv X (fun a b c => x4 (ix4 a b c o)) y.val x.val * (x5 (ix2 0 o) + x3 (ix4 0 y x 0) * x5 (ix2 1 o) : EReal)) 0 := by
  rw [← conv_of_window v _ X hX]
  unfold tileS
  unfold_payloads
  pointwise

/-- A pixel of a later layer's tile. -/
theorem tileD_apply (x3 : Vec Ideal S1x32x224x1 .f32) (x4 : Vec Ideal S3x3x96x96 .f32) (x5 : Vec Ideal S8x96 .f32) (x6 : Vec Ideal S96x8 .f32) (v : Vec Ideal S34x226x96 .bf16)
    (X : ℕ → ℕ → Fin 96 → EReal) (hX : ∀ (r : Fin 34) (q : Fin 226) (c : Fin 96), v (ix3 r q c) = X r.val q.val c)
    (y : Fin 32) (x : Fin 224) (o : Fin 96) :
    tileD x3 x4 x5 x6 v (ix4 0 y x o)
      = max (conv X (fun a b c => x4 (ix4 a b c o)) y.val x.val * (x3 (ix4 0 y x 0) * x5 (ix2 1 o) : EReal)
          + conv X (fun a b c => (x4 (ix4 a b c o) : EReal) * (x6 (ix2 c 0) : EReal)) y.val x.val * ((1 - (x3 (ix4 0 y x 0) : EReal)) * (x5 (ix2 2 o) : EReal))) 0 := by
  rw [← conv_of_window v _ X hX, ← conv_of_window v _ X hX]
  unfold tileD
  unfold_payloads
  pointwise

/-- An entry of the channel mask, the softmax over a row's two columns. -/
theorem maskOut_apply (p u : Vec Ideal S384x2 .f32) (r : Fin 384) (k : Fin 2) :
    maskOut p u (ix2 r k) = soft (fun e => noisy (p (ix2 r e)) (u (ix2 r e))) k := by
  unfold maskOut rProb
  unfold_payloads
  pointwise
  simp only [Fin.sum_univ_two, soft, noisy, ← fold_two (fun e => (p (ix2 r e) : EReal) + -Ideal.log (-Ideal.log (u (ix2 r e)))), zero_sub]

/-- A pixel of the final mix's tile. -/
theorem mixOut_apply (x0 x1 x2 x3 : Vec Ideal S1x32x224x96 .bf16) (x4 : Vec Ideal S384x96 .bf16) (x5 : Vec Ideal S8x96 .f32) (y : Fin 32) (x : Fin 224) (o : Fin 96) :
    mixOut x0 x1 x2 x3 x4 x5 (ix4 0 y x o)
      = (x5 (ix2 0 o) + ∑ k : Fin 96, x0 (ix4 0 y x k) * x4 (ix2 ⟨k.val, by omega⟩ o) + ∑ k : Fin 96, x1 (ix4 0 y x k) * x4 (ix2 ⟨96 + k.val, by omega⟩ o)
          + ∑ k : Fin 96, x2 (ix4 0 y x k) * x4 (ix2 ⟨192 + k.val, by omega⟩ o) + ∑ k : Fin 96, x3 (ix4 0 y x k) * x4 (ix2 ⟨288 + k.val, by omega⟩ o) : EReal) := by
  unfold mixOut
  unfold_payloads
  pointwise
-- ==== Proof.LayVal.lean ====
module
public import proofs.«01_k».proof.Proof.TileVal
public import proofs.«01_k».proof.Proof.Steps
@[expose] public section
set_option maxRecDepth 16384
noncomputable section
namespace Cert.KernelIdeal.Conv
open Idealize.ShloMosaic Idealize.ShloMosaic.TcCoe
open Cert.KernelIdeal.Gen Cert.Conv

/-- A convolution of rows counted from row `n` is the convolution at a row `n` further down. -/
theorem conv_rows (P : ℕ → ℕ → Fin 96 → EReal) (w : Fin 3 → Fin 3 → Fin 96 → EReal) (n y x : ℕ) :
    conv (fun r => P (n + r)) w y x = conv P w (n + y) x := by
  simp only [conv, tap, Nat.add_left_comm n]

/-- The window a tile reads, at a row of it: the image with its border of zeros. -/
theorem winOf_apply (A : Vec Ideal S4x224x224x96 .bf16) (b : Fin 4) (j : ℕ) (r : Fin 34) (q : Fin 226) (c : Fin 96) :
    winOf A b j (ix3 r q c) = border (fun r q c => (A (ix4 b r q c) : EReal)) (32 * j + r.val) q.val c := by
  have hz : @Eq EReal (zbf : Elt Ideal .bf16) 0 := by
    show Ideal.ofBits .bf16 (0#16) = 0
    exact Ideal.ofBits_zero .bf16
  have hr : ((ix3 r q c : S34x226x96.Idx) 0).val = r.val := rfl
  unfold winOf border
  by_cases h : 32 * j + r.val < 226
  · rw [dif_pos (by rw [hr]; exact h)]
    unfold padRow
    by_cases h' : (1 ≤ 32 * j + r.val ∧ 32 * j + r.val ≤ 224) ∧ 1 ≤ q.val ∧ q.val ≤ 224
    · rw [dif_pos h', dif_pos (by exact h')]
      rfl
    · rw [dif_neg h', dif_neg (by exact h'), hz]
  · rw [dif_neg (by rw [hr]; exact h), dif_neg (by omega), hz]

/-- What the first layer leaves in its output array. -/
def layS (A : Vec Ideal S4x224x224x96 .bf16) (p : Vec Ideal S4x224x224x1 .f32) (w : Vec Ideal S3x3x96x96 .f32) (rc : Vec Ideal S8x96 .f32) : Vec Ideal S4x224x224x96 .bf16 :=
  fun i => max (conv (border fun r q c => (A (ix4 (i 0) r q c) : EReal)) (fun a e c => (w (ix4 a e c (i 3)) : EReal)) (i 1).val (i 2).val
    * (rc (ix2 0 (i 3)) + p (ix4 (i 0) (i 1) (i 2) 0) * rc (ix2 1 (i 3)) : EReal)) 0

/-- What a later layer leaves in its output array. -/
def layD (A : Vec Ideal S4x224x224x96 .bf16) (p : Vec Ideal S4x224x224x1 .f32) (w : Vec Ideal S3x3x96x96 .f32) (rc : Vec Ideal S8x96 .f32) (cc : Vec Ideal S96x8 .f32) : Vec Ideal S4x224x224x96 .bf16 :=
  fun i => max (conv (border fun r q c => (A (ix4 (i 0) r q c) : EReal)) (fun a e c => (w (ix4 a e c (i 3)) : EReal)) (i 1).val (i 2).val
      * (p (ix4 (i 0) (i 1) (i 2) 0) * rc (ix2 1 (i 3)) : EReal)
    + conv (border fun r q c => (A (ix4 (i 0) r q c) : EReal)) (fun a e c => (w (ix4 a e c (i 3)) : EReal) * (cc (ix2 c 0) : EReal)) (i 1).val (i 2).val
      * ((1 - (p (ix4 (i 0) (i 1) (i 2) 0) : EReal)) * (rc (ix2 2 (i 3)) : EReal))) 0

section
variable (b : Fin 4) (n : Fin 7)

theorem tile_lt (y : Fin 32) : 32 * n.val + y.val < 224 := by omega

/-- The spatial mask's block of a step, by coordinates. -/
theorem mask_block (p : Vec Ideal S4x224x224x1 .f32) (e : S1x32x224x1.Idx → S4x224x224x1.Idx)
    (he : ∀ y a, (e y a).val = ![b.val, n.val, 0, 0] a * S1x32x224x1.size a + 1 * (y a).val) (y : Fin 32) (x : Fin 224) :
    p (e (ix4 0 y x 0)) = p (ix4 b ⟨32 * n.val + y.val, tile_lt n y⟩ x 0) := by
  refine congrArg p (funext fun a => Fin.ext ?_)
  rw [he]
  fin_cases a
  · show b.val * 1 + 1 * 0 = b.val; omega
  · show n.val * 32 + 1 * y.val = 32 * n.val + y.val; omega
  · show 0 * 224 + 1 * x.val = x.val; omega
  · show 0 * 1 + 1 * 0 = 0; omega

/-- The block of an image a step stores or reads, by coordinates. -/
theorem tile_block (e : S1x32x224x96.Idx → S4x224x224x96.Idx)
    (he : ∀ y a, (e y a).val = ![b.val, n.val, 0, 0] a * S1x32x224x96.size a + 1 * (y a).val) (y : Fin 32) (x : Fin 224) (o : Fin 96) :
    e (ix4 0 y x o) = ix4 b ⟨32 * n.val + y.val, tile_lt n y⟩ x o := by
  refine funext fun a => Fin.ext ?_
  rw [he]
  fin_cases a
  · show b.val * 1 + 1 * 0 = b.val; omega
  · show n.val * 32 + 1 * y.val = 32 * n.val + y.val; omega
  · show 0 * 224 + 1 * x.val = x.val; omega
  · show 0 * 96 + 1 * o.val = o.val; omega

/-- A block that is its whole array. -/
theorem whole_block {s : Shape} {α : Type} (X : s.Idx → α) (e : s.Idx → s.Idx) (f : Fin s.rank → ℕ) (hf : ∀ a, f a = 0)
    (he : ∀ y a, (e y a).val = f a * s.size a + 1 * (y a).val) (y : s.Idx) : X (e y) = X y :=
  congrArg X (funext fun a => Fin.ext (by rw [he, hf]; omega))

/-- The windows whose block is the whole array are at block zero. -/
theorem tr2_zero (i : grid1.Coords) (a : Fin 4) : cc1_transform_2 i a = 0 := by fin_cases a <;> rfl
theorem tr3_zero (i : grid1.Coords) (a : Fin 2) : cc1_transform_3 i a = 0 := by fin_cases a <;> rfl
theorem tr4_zero (i : grid1.Coords) (a : Fin 2) : cc1_transform_4 i a = 0 := by fin_cases a <;> rfl

theorem tile_idx (y : S1x32x224x96.Idx) : ∃ (r : Fin 32) (x : Fin 224) (o : Fin 96), y = ix4 0 r x o := by
  refine ⟨y 1, y 2, y 3, funext fun a => ?_⟩
  fin_cases a
  · exact Subsingleton.elim (α := Fin 1) _ _
  · rfl
  · rfl
  · rfl

theorem tileS_lay (A : Vec Ideal S4x224x224x96 .bf16) (p : Vec Ideal S4x224x224x1 .f32) (w : Vec Ideal S3x3x96x96 .f32) (rc : Vec Ideal S8x96 .f32)
    (x3 : Vec Ideal S1x32x224x1 .f32) (x4 : Vec Ideal S3x3x96x96 .f32) (x5 : Vec Ideal S8x96 .f32)
    (h3 : ∀ y x, x3 (ix4 0 y x 0) = p (ix4 b ⟨32 * n.val + y.val, tile_lt n y⟩ x 0)) (h4 : ∀ j, x4 j = w j) (h5 : ∀ j, x5 j = rc j)
    (e : S1x32x224x96.Idx → S4x224x224x96.Idx)
    (he : ∀ y a, (e y a).val = ![b.val, n.val, 0, 0] a * S1x32x224x96.size a + 1 * (y a).val) (y : S1x32x224x96.Idx) :
    tileS x3 x4 x5 (winOf A b n.val) y = layS A p w rc (e y) := by
  obtain rfl : x4 = w := funext h4
  obtain rfl : x5 = rc := funext h5
  obtain ⟨r, x, o, rfl⟩ := tile_idx y
  rw [tile_block b n e he, tileS_apply x3 x4 x5 _ (fun r q c => border (fun r q c => (A (ix4 b r q c) : EReal)) (32 * n.val + r) q c) (winOf_apply A b n.val),
    conv_rows (border fun r q c => (A (ix4 b r q c) : EReal)), h3]
  rfl

theorem tileD_lay (A : Vec Ideal S4x224x224x96 .bf16) (p : Vec Ideal S4x224x224x1 .f32) (w : Vec Ideal S3x3x96x96 .f32) (rc : Vec Ideal S8x96 .f32) (cc : Vec Ideal S96x8 .f32)
    (x3 : Vec Ideal S1x32x224x1 .f32) (x4 : Vec Ideal S3x3x96x96 .f32) (x5 : Vec Ideal S8x96 .f32) (x6 : Vec Ideal S96x8 .f32)
    (h3 : ∀ y x, x3 (ix4 0 y x 0) = p (ix4 b ⟨32 * n.val + y.val, tile_lt n y⟩ x 0)) (h4 : ∀ j, x4 j = w j) (h5 : ∀ j, x5 j = rc j) (h6 : ∀ j, x6 j = cc j)
    (e : S1x32x224x96.Idx → S4x224x224x96.Idx)
    (he : ∀ y a, (e y a).val = ![b.val, n.val, 0, 0] a * S1x32x224x96.size a + 1 * (y a).val) (y : S1x32x224x96.Idx) :
    tileD x3 x4 x5 x6 (winOf A b n.val) y = layD A p w rc cc (e y) := by
  obtain rfl : x4 = w := funext h4
  obtain rfl : x5 = rc := funext h5
  obtain rfl : x6 = cc := funext h6
  obtain ⟨r, x, o, rfl⟩ := tile_idx y
  rw [tile_block b n e he, tileD_apply x3 x4 x5 x6 _ (fun r q c => border (fun r q c => (A (ix4 b r q c) : EReal)) (32 * n.val + r) q c) (winOf_apply A b n.val),
    conv_rows (border fun r q c => (A (ix4 b r q c) : EReal)), conv_rows (border fun r q c => (A (ix4 b r q c) : EReal)), h3]
  rfl

/-- The rows of the tile a step stores. -/
def tileOf (i : grid1.Coords) : Fin 7 := ⟨(i 1).val - 1, by have : (i 1).val < 8 := (i 1).isLt; omega⟩

theorem at_mask (i : grid1.Coords) {s : Shape} (hs : s.rank = 4) (y : s.Idx) (a : Fin s.rank) :
    cc1_transform_1 i (a.cast hs) * s.size a + 1 * (y a).val = ![(i 0).val, (tileOf i).val, 0, 0] (a.cast hs) * s.size a + 1 * (y a).val := by
  rw [tr1 i]; rfl
theorem at_tile (i : grid1.Coords) {s : Shape} (hs : s.rank = 4) (y : s.Idx) (a : Fin s.rank) :
    cc1_transform_5 i (a.cast hs) * s.size a + 1 * (y a).val = ![(i 0).val, (tileOf i).val, 0, 0] (a.cast hs) * s.size a + 1 * (y a).val := by
  rw [tr5 i]; rfl
end

end Cert.KernelIdeal.Conv
-- ==== Proof.RegionVal.lean ====
module
public import proofs.«01_k».proof.Proof.LayVal
public import proofs.«01_k».proof.Proof.Layers
@[expose] public section
set_option maxRecDepth 16384
noncomputable section
namespace Cert.KernelIdeal.Conv
open Idealize.ShloMosaic Idealize.ShloMosaic.TcCoe
open Cert.KernelIdeal.Gen Cert.Conv

section
variable (i : grid1.Coords) (A : Vec Ideal S4x224x224x96 .bf16) (p : Vec Ideal S4x224x224x1 .f32) (w : Vec Ideal S3x3x96x96 .f32) (rc : Vec Ideal S8x96 .f32) (cc : Vec Ideal S96x8 .f32)
  (e1 : S1x32x224x1.Idx → S4x224x224x1.Idx) (h1 : ∀ y a, (e1 y a).val = cc1_transform_1 i a * S1x32x224x1.size a + 1 * (y a).val)
  (e2 : S3x3x96x96.Idx → S3x3x96x96.Idx) (h2 : ∀ y a, (e2 y a).val = cc1_transform_2 i a * S3x3x96x96.size a + 1 * (y a).val)
  (e3 : S8x96.Idx → S8x96.Idx) (h3 : ∀ y a, (e3 y a).val = cc1_transform_3 i a * S8x96.size a + 1 * (y a).val)
  (e4 : S96x8.Idx → S96x8.Idx) (h4 : ∀ y a, (e4 y a).val = cc1_transform_4 i a * S96x8.size a + 1 * (y a).val)
  (e5 : S1x32x224x96.Idx → S4x224x224x96.Idx) (h5 : ∀ y a, (e5 y a).val = cc1_transform_5 i a * S1x32x224x96.size a + 1 * (y a).val)
include h1 h2 h3 h5

/-- The tile the first layer stores at a point, of the blocks of its arrays there, is the block of its image there. -/
theorem tileS_block (y : S1x32x224x96.Idx) :
    tileS (fun y => p (e1 y)) (fun y => w (e2 y)) (fun y => rc (e3 y)) (winOf A (i 0) ((i 1).val - 1)) y = layS A p w rc (e5 y) :=
  tileS_lay (i 0) (tileOf i) A p w rc _ _ _
    (mask_block (i 0) (tileOf i) p e1 fun y a => (h1 y a).trans (at_mask i (s := S1x32x224x1) rfl y a))
    (whole_block w e2 _ (tr2_zero i) h2) (whole_block rc e3 _ (tr3_zero i) h3) e5 (fun y a => (h5 y a).trans (at_tile i (s := S1x32x224x96) rfl y a)) y

include h4
/-- So with the later layers. -/
theorem tileD_block (y : S1x32x224x96.Idx) :
    tileD (fun y => p (e1 y)) (fun y => w (e2 y)) (fun y => rc (e3 y)) (fun y => cc (e4 y)) (winOf A (i 0) ((i 1).val - 1)) y = layD A p w rc cc (e5 y) :=
  tileD_lay (i 0) (tileOf i) A p w rc cc _ _ _ _
    (mask_block (i 0) (tileOf i) p e1 fun y a => (h1 y a).trans (at_mask i (s := S1x32x224x1) rfl y a))
    (whole_block w e2 _ (tr2_zero i) h2) (whole_block rc e3 _ (tr3_zero i) h3) (whole_block cc e4 _ (tr4_zero i) h4)
    e5 (fun y a => (h5 y a).trans (at_tile i (s := S1x32x224x96) rfl y a)) y

end

variable (V : (c : Dev nD) → (b : Ref sig .tc) → Buf (Elt Ideal) ((c : Thread nD τ).loc b)) (c : Dev nD)

/-- The layers' output arrays: at each point the block stored there. -/
theorem arr1 : (dat1 V c).arrAt 5 cfg1.N = layS (V c main_v11) (V c main_v12) (V c main_v13) (V c main_v29) := by
  refine (dat1 V c).arrAt_eq_of_covers 5 _ (by decide +kernel) fun t _ y => ?_
  rw [after1_5]
  exact tileS_block (grid1.coords t) (V c main_v11) (V c main_v12) (V c main_v13) (V c main_v29)
    (fun y => ((cfg1.win 1).blk t).view.emb y) (fun _ _ => rfl)
    (fun y => ((cfg1.win 2).blk t).view.emb y) (fun _ _ => rfl)
    (fun y => ((cfg1.win 3).blk t).view.emb y) (fun _ _ => rfl)
    (fun y => ((cfg1.win 5).blk t).view.emb y) (fun _ _ => rfl) y

theorem arr2 : (dat2 V c).arrAt 5 cfg2.N = layD (V c main_v31) (V c main_v12) (V c main_v14) (V c main_v41) (V c main_v46) := by
  refine (dat2 V c).arrAt_eq_of_covers 5 _ (by decide +kernel) fun t _ y => ?_
  rw [after2_5]
  exact tileD_block (grid2.coords t) (V c main_v31) (V c main_v12) (V c main_v14) (V c main_v41) (V c main_v46)
    (fun y => ((cfg2.win 1).blk t).view.emb y) (fun _ _ => rfl)
    (fun y => ((cfg2.win 2).blk t).view.emb y) (fun _ _ => rfl)
    (fun y => ((cfg2.win 3).blk t).view.emb y) (fun _ _ => rfl)
    (fun y => ((cfg2.win 4).blk t).view.emb y) (fun _ _ => rfl)
    (fun y => ((cfg2.win 5).blk t).view.emb y) (fun _ _ => rfl) y

theorem arr3 : (dat3 V c).arrAt 5 cfg3.N = layD (V c main_v47) (V c main_v12) (V c main_v15) (V c main_v57) (V c main_v62) := by
  refine (dat3 V c).arrAt_eq_of_covers 5 _ (by decide +kernel) fun t _ y => ?_
  rw [after3_5]
  exact tileD_block (grid3.coords t) (V c main_v47) (V c main_v12) (V c main_v15) (V c main_v57) (V c main_v62)
    (fun y => ((cfg3.win 1).blk t).view.emb y) (fun _ _ => rfl)
    (fun y => ((cfg3.win 2).blk t).view.emb y) (fun _ _ => rfl)
    (fun y => ((cfg3.win 3).blk t).view.emb y) (fun _ _ => rfl)
    (fun y => ((cfg3.win 4).blk t).view.emb y) (fun _ _ => rfl)
    (fun y => ((cfg3.win 5).blk t).view.emb y) (fun _ _ => rfl) y

theorem arr4 : (dat4 V c).arrAt 5 cfg4.N = layD (V c main_v63) (V c main_v12) (V c main_v16) (V c main_v73) (V c main_v78) := by
  refine (dat4 V c).arrAt_eq_of_covers 5 _ (by decide +kernel) fun t _ y => ?_
  rw [after4_5]
  exact tileD_block (grid4.coords t) (V c main_v63) (V c main_v12) (V c main_v16) (V c main_v73) (V c main_v78)
    (fun y => ((cfg4.win 1).blk t).view.emb y) (fun _ _ => rfl)
    (fun y => ((cfg4.win 2).blk t).view.emb y) (fun _ _ => rfl)
    (fun y => ((cfg4.win 3).blk t).view.emb y) (fun _ _ => rfl)
    (fun y => ((cfg4.win 4).blk t).view.emb y) (fun _ _ => rfl)
    (fun y => ((cfg4.win 5).blk t).view.emb y) (fun _ _ => rfl) y

end Cert.KernelIdeal.Conv
-- ==== Proof.EndsVal.lean ====
module
public import proofs.«01_k».proof.Proof.LayVal
public import proofs.«01_k».proof.Proof.RegionEnds
public import Idealize.ShloMosaic.Lib.Pipeline.ValueKit
@[expose] public section
set_option maxRecDepth 16384
noncomputable section
namespace Cert.KernelIdeal.Conv
open Idealize.ShloMosaic Idealize.ShloMosaic.TcCoe
open Cert.KernelIdeal.Gen Cert.Conv

variable (V : (c : Dev nD) → (b : Ref sig .tc) → Buf (Elt Ideal) ((c : Thread nD τ).loc b)) (c : Dev nD)

/-- The mask region's output array. -/
theorem arr0 : (dat0 V c).arrAt 2 cfg0.N = maskOut (V c main_v0) (V c main_v1) := by
  refine (dat0 V c).arrAt_eq_of_covers 2 _ (by decide +kernel) fun t _ y => ?_
  rw [after0_2]
  have e0 : iblk0 V c 0 t = V c main_v0 := funext fun y => congrArg (V c main_v0) (funext fun a => Fin.ext (by
    blk_simp
    show 0 * _ + _ = _
    omega))
  have e1 : iblk0 V c 1 t = V c main_v1 := funext fun y => congrArg (V c main_v1) (funext fun a => Fin.ext (by
    blk_simp
    show 0 * _ + _ = _
    omega))
  have e2 : ((cfg0.win 2).blk t).view.emb y = y := funext fun a => Fin.ext (by
    blk_simp
    show 0 * _ + _ = _
    omega)
  rw [e0, e1, e2]
  rfl

/-- What the last region leaves in its output array. -/
def mixAll (A0 A1 A2 A3 : Vec Ideal S4x224x224x96 .bf16) (w : Vec Ideal S384x96 .bf16) (z : Vec Ideal S8x96 .f32) : Vec Ideal S4x224x224x96 .f32 :=
  fun i => (z (ix2 0 (i 3)) + ∑ k : Fin 96, A0 (ix4 (i 0) (i 1) (i 2) k) * w (ix2 ⟨k.val, by omega⟩ (i 3)) + ∑ k : Fin 96, A1 (ix4 (i 0) (i 1) (i 2) k) * w (ix2 ⟨96 + k.val, by omega⟩ (i 3))
    + ∑ k : Fin 96, A2 (ix4 (i 0) (i 1) (i 2) k) * w (ix2 ⟨192 + k.val, by omega⟩ (i 3)) + ∑ k : Fin 96, A3 (ix4 (i 0) (i 1) (i 2) k) * w (ix2 ⟨288 + k.val, by omega⟩ (i 3)) : EReal)

theorem mix_all (b : Fin 4) (n : Fin 7) (A0 A1 A2 A3 : Vec Ideal S4x224x224x96 .bf16) (w : Vec Ideal S384x96 .bf16) (z : Vec Ideal S8x96 .f32)
    (x0 x1 x2 x3 : Vec Ideal S1x32x224x96 .bf16) (x4 : Vec Ideal S384x96 .bf16) (x5 : Vec Ideal S8x96 .f32)
    (h0 : ∀ r x k, x0 (ix4 0 r x k) = A0 (ix4 b ⟨32 * n.val + r.val, tile_lt n r⟩ x k)) (h1 : ∀ r x k, x1 (ix4 0 r x k) = A1 (ix4 b ⟨32 * n.val + r.val, tile_lt n r⟩ x k))
    (h2 : ∀ r x k, x2 (ix4 0 r x k) = A2 (ix4 b ⟨32 * n.val + r.val, tile_lt n r⟩ x k)) (h3 : ∀ r x k, x3 (ix4 0 r x k) = A3 (ix4 b ⟨32 * n.val + r.val, tile_lt n r⟩ x k))
    (h4 : ∀ j, x4 j = w j) (h5 : ∀ j, x5 j = z j) (e : S1x32x224x96.Idx → S4x224x224x96.Idx)
    (he : ∀ y a, (e y a).val = ![b.val, n.val, 0, 0] a * S1x32x224x96.size a + 1 * (y a).val) (y : S1x32x224x96.Idx) :
    mixOut x0 x1 x2 x3 x4 x5 y = mixAll A0 A1 A2 A3 w z (e y) := by
  obtain rfl : x4 = w := funext h4
  obtain rfl : x5 = z := funext h5
  obtain ⟨r, x, o, rfl⟩ := tile_idx y
  rw [tile_block b n e he, mixOut_apply]
  simp only [h0, h1, h2, h3]
  rfl

/-- The blocks of the last region's images. -/
theorem at_mix (i : grid5.Coords) (y : S1x32x224x96.Idx) (a : Fin 4) :
    cc5_transform_0 i a * S1x32x224x96.size a + 1 * (y a).val = ![(i 0).val, (i 1).val, 0, 0] a * S1x32x224x96.size a + 1 * (y a).val := by
  have e : ∀ i : grid5.Coords, cc5_transform_0 i = ![(i 0).val, (i 1).val, 0, 0] := by decide +kernel
  rw [e i]
theorem tr54_zero (i : grid5.Coords) (a : Fin 2) : cc5_transform_4 i a = 0 := by fin_cases a <;> rfl
theorem tr55_zero (i : grid5.Coords) (a : Fin 2) : cc5_transform_5 i a = 0 := by fin_cases a <;> rfl

theorem arr5 : (dat5 V c).arrAt 6 cfg5.N = mixAll (V c main_v31) (V c main_v47) (V c main_v63) (V c main_v79) (V c main_v19) (V c main_v82) := by
  refine (dat5 V c).arrAt_eq_of_covers 6 _ (by decide +kernel) fun t _ y => ?_
  rw [after5_6]
  have h0 := fun r x k => congrArg (V c main_v31) (tile_block (grid5.coords t 0) (grid5.coords t 1) (fun y => ((cfg5.win 0).blk t).view.emb y) (at_mix (grid5.coords t)) r x k)
  have h1 := fun r x k => congrArg (V c main_v47) (tile_block (grid5.coords t 0) (grid5.coords t 1) (fun y => ((cfg5.win 1).blk t).view.emb y) (at_mix (grid5.coords t)) r x k)
  have h2 := fun r x k => congrArg (V c main_v63) (tile_block (grid5.coords t 0) (grid5.coords t 1) (fun y => ((cfg5.win 2).blk t).view.emb y) (at_mix (grid5.coords t)) r x k)
  have h3 := fun r x k => congrArg (V c main_v79) (tile_block (grid5.coords t 0) (grid5.coords t 1) (fun y => ((cfg5.win 3).blk t).view.emb y) (at_mix (grid5.coords t)) r x k)
  exact mix_all (grid5.coords t 0) (grid5.coords t 1) (V c main_v31) (V c main_v47) (V c main_v63) (V c main_v79) (V c main_v19) (V c main_v82)
    (iblk5 V c 0 t) (iblk5 V c 1 t) (iblk5 V c 2 t) (iblk5 V c 3 t) (iblk5 V c 4 t) (iblk5 V c 5 t) h0 h1 h2 h3
    (whole_block (s := S384x96) (V c main_v19) (fun y => ((cfg5.win 4).blk t).view.emb y) (cc5_transform_4 (grid5.coords t)) (tr54_zero (grid5.coords t)) fun _ _ => rfl)
    (whole_block (s := S8x96) (V c main_v82) (fun y => ((cfg5.win 5).blk t).view.emb y) (cc5_transform_5 (grid5.coords t)) (tr55_zero (grid5.coords t)) fun _ _ => rfl)
    (fun y => ((cfg5.win 6).blk t).view.emb y) (at_mix (grid5.coords t)) y

end Cert.KernelIdeal.Conv
-- ==== Proof.HostVal.lean ====
module
public import proofs.«01_k».proof.Proof.Frame
public import Idealize.ShloMosaic.Lib.Pointwise
public import Idealize.ShloMosaic.Lib.StableHlo.ReadAt
public import Idealize.ShloMosaic.PureOps.Ideal.Laws
@[expose] public section
set_option maxRecDepth 16384
noncomputable section
namespace Cert.KernelIdeal.Conv
open Idealize.ShloMosaic Idealize.ShloMosaic.TcCoe
open Cert.KernelIdeal.Gen

section
-- the contents a host stretch finds
variable (W : Valuation τ sig (Elt Ideal))

/-- Row `4 c + i` of the mask's array is channel `c`'s share in layer `i`. -/
abbrev row (c : Fin 96) (i : Fin 4) : Fin 384 := ⟨4 * c.val + i.val, by omega⟩

theorem row_split (c : Fin 96) (i : Fin 4) (h : (4 * c.val + i.val) / 4 < 96) (h' : (4 * c.val + i.val) % 4 < 4) :
    (⟨(4 * c.val + i.val) / 4, h⟩ : Fin 96) = c ∧ (⟨(4 * c.val + i.val) % 4, h'⟩ : Fin 4) = i :=
  ⟨Fin.ext (by show (4 * c.val + i.val) / 4 = c.val; omega), Fin.ext (by show (4 * c.val + i.val) % 4 = i.val; omega)⟩
theorem row_join (c : Fin 96) (i : Fin 4) (h : c.val * 4 + i.val < 384) : (⟨c.val * 4 + i.val, h⟩ : Fin 384) = row c i := Fin.ext (by show c.val * 4 + i.val = 4 * c.val + i.val; omega)

theorem h0_p (c : Fin 96) (i : Fin 4) (k : Fin 2) : (StableHlo.after hostOps0 W (Proc.devRef .tc main_v0) : Vec Ideal S384x2 .f32) (ix2 (row c i) k) = (W (Proc.devRef .tc main_arg2) : Vec Ideal S1x96x4x2 .f32) (ix4 0 c i k) := by
  after_reads_at
  rw [(row_split c i (by omega) (by omega)).1, (row_split c i (by omega) (by omega)).2]
theorem h0_u (c : Fin 96) (i : Fin 4) (k : Fin 2) : (StableHlo.after hostOps0 W (Proc.devRef .tc main_v1) : Vec Ideal S384x2 .f32) (ix2 (row c i) k) = (W (Proc.devRef .tc main_arg9) : Vec Ideal S1x96x4x2 .f32) (ix4 0 c i k) := by
  after_reads_at
  rw [(row_split c i (by omega) (by omega)).1, (row_split c i (by omega) (by omega)).2]

theorem h1_v3 (c : Fin 96) (i : Fin 4) (k : Fin 2) : (StableHlo.after hostOps1 W (Proc.devRef .tc main_v3) : Vec Ideal S1x96x4x2 .f32) (ix4 0 c i k) = (W (Proc.devRef .tc main_v2) : Vec Ideal S384x2 .f32) (ix2 (row c i) k) := by
  after_reads_at
  rw [row_join]
theorem h1_v6 (c : Fin 96) (i : Fin 4) : (StableHlo.after hostOps1 W (Proc.devRef .tc main_v6) : Vec Ideal S96x4 .f32) (ix2 c i) = (W (Proc.devRef .tc main_v2) : Vec Ideal S384x2 .f32) (ix2 (row c i) 0) := by
  after_reads_at
  rw [row_join]
theorem h1_v9 (c : Fin 96) (i : Fin 4) : (StableHlo.after hostOps1 W (Proc.devRef .tc main_v9) : Vec Ideal S96x4 .f32) (ix2 c i) = (W (Proc.devRef .tc main_v2) : Vec Ideal S384x2 .f32) (ix2 (row c i) 1) := by
  after_reads_at
  rw [row_join]
theorem h1_x (b : Fin 4) (y x : Fin 224) (c : Fin 96) : (StableHlo.after hostOps1 W (Proc.devRef .tc main_v11) : Vec Ideal S4x224x224x96 .bf16) (ix4 b y x c) = (W (Proc.devRef .tc main_arg0) : Vec Ideal S4x96x224x224 .f32) (ix4 b c y x) := by
  after_reads_at
theorem h1_p (b : Fin 4) (y x : Fin 224) : (StableHlo.after hostOps1 W (Proc.devRef .tc main_v12) : Vec Ideal S4x224x224x1 .f32) (ix4 b y x 0) = (W (Proc.devRef .tc main_arg1) : Vec Ideal S4x1x224x224 .f32) (ix4 b 0 y x) := by
  after_reads_at
theorem h1_w0 (a e : Fin 3) (c o : Fin 96) : (StableHlo.after hostOps1 W (Proc.devRef .tc main_v13) : Vec Ideal S3x3x96x96 .f32) (ix4 a e c o) = (W (Proc.devRef .tc main_arg3) : Vec Ideal S96x96x3x3 .f32) (ix4 o c a e) := by
  after_reads_at
theorem h1_w1 (a e : Fin 3) (c o : Fin 96) : (StableHlo.after hostOps1 W (Proc.devRef .tc main_v14) : Vec Ideal S3x3x96x96 .f32) (ix4 a e c o) = (W (Proc.devRef .tc main_arg4) : Vec Ideal S96x96x3x3 .f32) (ix4 o c a e) := by
  after_reads_at
theorem h1_w2 (a e : Fin 3) (c o : Fin 96) : (StableHlo.after hostOps1 W (Proc.devRef .tc main_v15) : Vec Ideal S3x3x96x96 .f32) (ix4 a e c o) = (W (Proc.devRef .tc main_arg5) : Vec Ideal S96x96x3x3 .f32) (ix4 o c a e) := by
  after_reads_at
theorem h1_w3 (a e : Fin 3) (c o : Fin 96) : (StableHlo.after hostOps1 W (Proc.devRef .tc main_v16) : Vec Ideal S3x3x96x96 .f32) (ix4 a e c o) = (W (Proc.devRef .tc main_arg6) : Vec Ideal S96x96x3x3 .f32) (ix4 o c a e) := by
  after_reads_at
theorem h1_wc (k : Fin 384) (o : Fin 96) : (StableHlo.after hostOps1 W (Proc.devRef .tc main_v19) : Vec Ideal S384x96 .bf16) (ix2 k o) = (W (Proc.devRef .tc main_arg7) : Vec Ideal S96x384x1x1 .f32) (ix4 o k 0 0) := by
  after_reads_at
theorem h1_r0 (o : Fin 96) : (StableHlo.after hostOps1 W (Proc.devRef .tc main_v29) : Vec Ideal S8x96 .f32) (ix2 0 o) = (W (Proc.devRef .tc main_v2) : Vec Ideal S384x2 .f32) (ix2 (row o 0) 0) := by
  after_reads_at
  after_reads_at
  rw [show (⟨o.val * 4, by omega⟩ : Fin 384) = row o 0 from row_join o 0 (by show o.val * 4 + 0 < 384; omega)]
theorem h1_r1 (o : Fin 96) : (StableHlo.after hostOps1 W (Proc.devRef .tc main_v29) : Vec Ideal S8x96 .f32) (ix2 1 o) = (W (Proc.devRef .tc main_v2) : Vec Ideal S384x2 .f32) (ix2 (row o 0) 1) := by
  after_reads_at
  after_reads_at
  rw [show (⟨o.val * 4, by omega⟩ : Fin 384) = row o 0 from row_join o 0 (by show o.val * 4 + 0 < 384; omega)]
theorem h2_r1 (o : Fin 96) (d s : EReal) (hd : (W (Proc.devRef .tc main_v6) : Vec Ideal S96x4 .f32) (ix2 o 1) = d) (hs : (W (Proc.devRef .tc main_v9) : Vec Ideal S96x4 .f32) (ix2 o 1) = s) :
    (StableHlo.after hostOps2 W (Proc.devRef .tc main_v41) : Vec Ideal S8x96 .f32) (ix2 1 o) = d + s := by
  rw [← hd, ← hs]
  after_reads_at
  after_reads_at
theorem h2_r2 (o : Fin 96) : (StableHlo.after hostOps2 W (Proc.devRef .tc main_v41) : Vec Ideal S8x96 .f32) (ix2 2 o) = (W (Proc.devRef .tc main_v6) : Vec Ideal S96x4 .f32) (ix2 o 1) := by
  after_reads_at
  after_reads_at
theorem h2_cc (c : Fin 96) : (StableHlo.after hostOps2 W (Proc.devRef .tc main_v46) : Vec Ideal S96x8 .f32) (ix2 c 0) = (W (Proc.devRef .tc main_v6) : Vec Ideal S96x4 .f32) (ix2 c 0) := by
  after_reads_at
theorem h3_r1 (o : Fin 96) (d s : EReal) (hd : (W (Proc.devRef .tc main_v6) : Vec Ideal S96x4 .f32) (ix2 o 2) = d) (hs : (W (Proc.devRef .tc main_v9) : Vec Ideal S96x4 .f32) (ix2 o 2) = s) :
    (StableHlo.after hostOps3 W (Proc.devRef .tc main_v57) : Vec Ideal S8x96 .f32) (ix2 1 o) = d + s := by
  rw [← hd, ← hs]
  after_reads_at
  after_reads_at
theorem h3_r2 (o : Fin 96) : (StableHlo.after hostOps3 W (Proc.devRef .tc main_v57) : Vec Ideal S8x96 .f32) (ix2 2 o) = (W (Proc.devRef .tc main_v6) : Vec Ideal S96x4 .f32) (ix2 o 2) := by
  after_reads_at
  after_reads_at
theorem h3_cc (c : Fin 96) : (StableHlo.after hostOps3 W (Proc.devRef .tc main_v62) : Vec Ideal S96x8 .f32) (ix2 c 0) = (W (Proc.devRef .tc main_v6) : Vec Ideal S96x4 .f32) (ix2 c 1) := by
  after_reads_at
theorem h4_r1 (o : Fin 96) (d s : EReal) (hd : (W (Proc.devRef .tc main_v6) : Vec Ideal S96x4 .f32) (ix2 o 3) = d) (hs : (W (Proc.devRef .tc main_v9) : Vec Ideal S96x4 .f32) (ix2 o 3) = s) :
    (StableHlo.after hostOps4 W (Proc.devRef .tc main_v73) : Vec Ideal S8x96 .f32) (ix2 1 o) = d + s := by
  rw [← hd, ← hs]
  after_reads_at
  after_reads_at
theorem h4_r2 (o : Fin 96) : (StableHlo.after hostOps4 W (Proc.devRef .tc main_v73) : Vec Ideal S8x96 .f32) (ix2 2 o) = (W (Proc.devRef .tc main_v6) : Vec Ideal S96x4 .f32) (ix2 o 3) := by
  after_reads_at
  after_reads_at
theorem h4_cc (c : Fin 96) : (StableHlo.after hostOps4 W (Proc.devRef .tc main_v78) : Vec Ideal S96x8 .f32) (ix2 c 0) = (W (Proc.devRef .tc main_v6) : Vec Ideal S96x4 .f32) (ix2 c 2) := by
  after_reads_at
theorem h5_z (o : Fin 96) : (StableHlo.after hostOps5 W (Proc.devRef .tc main_v82) : Vec Ideal S8x96 .f32) (ix2 0 o) = (W (Proc.devRef .tc main_arg8) : Vec Ideal S96 .f32) (ix1 o) := by
  after_reads_at
theorem h6_out (b : Fin 4) (o : Fin 96) (y x : Fin 224) : (StableHlo.after hostOps6 W (Proc.devRef .tc main_v84) : Vec Ideal S4x96x224x224 .f32) (ix4 b o y x) = (W (Proc.devRef .tc main_v83) : Vec Ideal S4x224x224x96 .f32) (ix4 b y x o) := by
  after_reads_at
end
end Cert.KernelIdeal.Conv
-- ==== Proof.Net.lean ====
module
public import proofs.«01_k».proof.Proof.Arith
@[expose] public section
noncomputable section
namespace Cert.Conv

/-- The real numbers both programs' arguments hold, and the two entries of the channel mask: `w i o dy dx c` is layer `i`'s weight,
    `d i o` and `s i o` are the shares of the mask layer `i` gives channel `o`. -/
structure Reals where
  x : Fin 4 → Fin 224 → Fin 224 → Fin 96 → ℝ
  p : Fin 4 → Fin 224 → Fin 224 → ℝ
  w : Fin 4 → Fin 96 → Fin 3 → Fin 3 → Fin 96 → ℝ
  d : Fin 4 → Fin 96 → ℝ
  s : Fin 4 → Fin 96 → ℝ
  share : ∀ i c, d i c + s i c = 1

/-- The first layer's image. -/
def Reals.net0 (R : Reals) (b : Fin 4) (y x : Fin 224) (o : Fin 96) : ℝ :=
  first (R.x b) (R.w 0 o) (R.d 0 o) (R.s 0 o) (R.p b y x) y.val x.val

/-- Layer `i`'s image from the image `A` of layer `j`, the one before it. -/
def Reals.next (R : Reals) (j i : Fin 4) (A : Fin 4 → Fin 224 → Fin 224 → Fin 96 → ℝ) (b : Fin 4) (y x : Fin 224) (o : Fin 96) : ℝ :=
  later (A b) (R.w i o) (R.d j) (R.d i o) (R.s i o) (R.p b y x) y.val x.val

/-- The second, third and fourth layers' images. -/
def Reals.net1 (R : Reals) := R.next 0 1 R.net0
def Reals.net2 (R : Reals) := R.next 1 2 R.net1
def Reals.net3 (R : Reals) := R.next 2 3 R.net2

end Cert.Conv
-- ==== Proof.KernelNet.lean ====
module
public import proofs.«01_k».proof.Proof.RegionVal
public import proofs.«01_k».proof.Proof.EndsVal
public import proofs.«01_k».proof.Proof.HostVal
public import proofs.«01_k».proof.Proof.Net
@[expose] public section
set_option maxRecDepth 16384
noncomputable section
namespace Cert.KernelIdeal.Conv
open Idealize.ShloMosaic Idealize.ShloMosaic.TcCoe
open Cert.KernelIdeal.Gen Cert.Conv

/-- The bias may be added first or last. -/
theorem bias_last (z s0 s1 s2 s3 : EReal) : z + s0 + s1 + s2 + s3 = s0 + s1 + s2 + s3 + z := by
  rw [add_comm _ z, ← add_assoc, ← add_assoc, ← add_assoc]

/-- The first layer's array holds the first layer's image. -/
theorem layS_net (R : Reals) (A : Vec Ideal S4x224x224x96 .bf16) (p : Vec Ideal S4x224x224x1 .f32) (w : Vec Ideal S3x3x96x96 .f32) (rc : Vec Ideal S8x96 .f32)
    (hA : ∀ b y x k, @Eq EReal (A (ix4 b y x k)) (R.x b y x k : ℝ)) (hp : ∀ b y x, @Eq EReal (p (ix4 b y x 0)) (R.p b y x : ℝ))
    (hw : ∀ a e k o, @Eq EReal (w (ix4 a e k o)) (R.w 0 o a e k : ℝ)) (h0 : ∀ o, @Eq EReal (rc (ix2 0 o)) (R.d 0 o : ℝ)) (h1 : ∀ o, @Eq EReal (rc (ix2 1 o)) (R.s 0 o : ℝ))
    (b : Fin 4) (y x : Fin 224) (o : Fin 96) : @Eq EReal (layS A p w rc (ix4 b y x o)) (R.net0 b y x o : ℝ) := by
  show max (conv (border fun r q c => (A (ix4 b r q c) : EReal)) (fun a e c => (w (ix4 a e c o) : EReal)) y.val x.val
    * (rc (ix2 0 o) + p (ix4 b y x 0) * rc (ix2 1 o) : EReal)) 0 = _
  simp only [hA, hp, hw, h0, h1]
  exact first_kernel _ _ _ _ _ _ _

/-- A later layer's array holds that layer's image, if the array it reads holds the image before. -/
theorem layD_net (R : Reals) (j i : Fin 4) (Q : Fin 4 → Fin 224 → Fin 224 → Fin 96 → ℝ) (A : Vec Ideal S4x224x224x96 .bf16) (p : Vec Ideal S4x224x224x1 .f32) (w : Vec Ideal S3x3x96x96 .f32) (rc : Vec Ideal S8x96 .f32) (cc : Vec Ideal S96x8 .f32)
    (hA : ∀ b y x k, @Eq EReal (A (ix4 b y x k)) (Q b y x k : ℝ)) (hp : ∀ b y x, @Eq EReal (p (ix4 b y x 0)) (R.p b y x : ℝ))
    (hw : ∀ a e k o, @Eq EReal (w (ix4 a e k o)) (R.w i o a e k : ℝ)) (h1 : ∀ o, @Eq EReal (rc (ix2 1 o)) ((R.d i o : ℝ) + (R.s i o : ℝ))) (h2 : ∀ o, @Eq EReal (rc (ix2 2 o)) (R.d i o : ℝ))
    (hc : ∀ k, @Eq EReal (cc (ix2 k 0)) (R.d j k : ℝ))
    (b : Fin 4) (y x : Fin 224) (o : Fin 96) : @Eq EReal (layD A p w rc cc (ix4 b y x o)) (R.next j i Q b y x o : ℝ) := by
  show max (conv (border fun r q c => (A (ix4 b r q c) : EReal)) (fun a e c => (w (ix4 a e c o) : EReal)) y.val x.val
      * (p (ix4 b y x 0) * rc (ix2 1 o) : EReal)
    + conv (border fun r q c => (A (ix4 b r q c) : EReal)) (fun a e c => (w (ix4 a e c o) : EReal) * (cc (ix2 c 0) : EReal)) y.val x.val
      * ((1 - (p (ix4 b y x 0) : EReal)) * (rc (ix2 2 o) : EReal))) 0 = _
  simp only [hA, hp, hw, h1, h2, hc]
  exact later_kernel _ _ _ _ _ _ _ _

variable (m : (ℓ : Loc nD τ sig) → Buf (Elt Ideal) ℓ) (c : Dev nD)

/-- The scores the kernel's mask is taken of. -/
def score (k : Fin 96) (i : Fin 4) (e : Fin 2) : EReal :=
  noisy ((W0 m c (Proc.devRef .tc main_arg2) : Vec Ideal S1x96x4x2 .f32) (ix4 0 k i e)) ((W0 m c (Proc.devRef .tc main_arg9) : Vec Ideal S1x96x4x2 .f32) (ix4 0 k i e))

/-- The kernel's mask. -/
theorem mask_val (k : Fin 96) (i : Fin 4) (e : Fin 2) : (W2 m c (Proc.devRef .tc main_v2) : Vec Ideal S384x2 .f32) (ix2 (row k i) e) = soft (score m c k i) e := by
  unfold W2
  rw [Function.update_self, arr0]
  refine (maskOut_apply _ _ _ _).trans ?_
  refine congrArg (fun z => soft z e) (funext fun e => congrArg₂ noisy ?_ ?_)
  · exact h0_p (W0 m c) k i e
  · exact h0_u (W0 m c) k i e

/-- The kernel's arguments and mask hold the reals `R`. -/
structure Holds (R : Reals) : Prop where
  x : ∀ b y x k, @Eq EReal ((W0 m c (Proc.devRef .tc main_arg0) : Vec Ideal S4x96x224x224 .f32) (ix4 b k y x)) (R.x b y x k : ℝ)
  p : ∀ b y x, @Eq EReal ((W0 m c (Proc.devRef .tc main_arg1) : Vec Ideal S4x1x224x224 .f32) (ix4 b 0 y x)) (R.p b y x : ℝ)
  w0 : ∀ o a e k, @Eq EReal ((W0 m c (Proc.devRef .tc main_arg3) : Vec Ideal S96x96x3x3 .f32) (ix4 o k a e)) (R.w 0 o a e k : ℝ)
  w1 : ∀ o a e k, @Eq EReal ((W0 m c (Proc.devRef .tc main_arg4) : Vec Ideal S96x96x3x3 .f32) (ix4 o k a e)) (R.w 1 o a e k : ℝ)
  w2 : ∀ o a e k, @Eq EReal ((W0 m c (Proc.devRef .tc main_arg5) : Vec Ideal S96x96x3x3 .f32) (ix4 o k a e)) (R.w 2 o a e k : ℝ)
  w3 : ∀ o a e k, @Eq EReal ((W0 m c (Proc.devRef .tc main_arg6) : Vec Ideal S96x96x3x3 .f32) (ix4 o k a e)) (R.w 3 o a e k : ℝ)
  d : ∀ i k, soft (score m c k i) 0 = (R.d i k : ℝ)
  s : ∀ i k, soft (score m c k i) 1 = (R.s i k : ℝ)

/-- The mask's two columns as the layers' host stretches read them. -/
theorem v6_val (k : Fin 96) (i : Fin 4) : (W3 m c (Proc.devRef .tc main_v6) : Vec Ideal S96x4 .f32) (ix2 k i) = soft (score m c k i) 0 := (h1_v6 (W2 m c) k i).trans (mask_val m c k i 0)
theorem v9_val (k : Fin 96) (i : Fin 4) : (W3 m c (Proc.devRef .tc main_v9) : Vec Ideal S96x4 .f32) (ix2 k i) = soft (score m c k i) 1 := (h1_v9 (W2 m c) k i).trans (mask_val m c k i 1)

/-- An argument reaches the first layer unchanged. -/
theorem arg_kept (r : Ref sig .tc) (h0 : r ∉ hostOps0_W) (h : r ≠ main_v2) : W2 m c (Proc.devRef .tc r) = W0 m c (Proc.devRef .tc r) := by
  rw [W2_of m c r h, W1_of m c r h0]

/-- What the first layer's region finds is there at the later ones, if nothing between writes it. -/
theorem kept5 (r : Ref sig .tc) (h : r ≠ main_v31 ∧ r ∉ hostOps2_W) : W5 m c (Proc.devRef .tc r) = W3 m c (Proc.devRef .tc r) :=
  (W5_of m c r h.2).trans (W4_of m c r h.1)
theorem kept7 (r : Ref sig .tc) (h : (r ≠ main_v31 ∧ r ∉ hostOps2_W) ∧ r ≠ main_v47 ∧ r ∉ hostOps3_W) : W7 m c (Proc.devRef .tc r) = W3 m c (Proc.devRef .tc r) :=
  ((W7_of m c r h.2.2).trans (W6_of m c r h.2.1)).trans (kept5 m c r h.1)
theorem kept9 (r : Ref sig .tc) (h : ((r ≠ main_v31 ∧ r ∉ hostOps2_W) ∧ r ≠ main_v47 ∧ r ∉ hostOps3_W) ∧ r ≠ main_v63 ∧ r ∉ hostOps4_W) :
    W9 m c (Proc.devRef .tc r) = W3 m c (Proc.devRef .tc r) :=
  ((W9_of m c r h.2.2).trans (W8_of m c r h.2.1)).trans (kept7 m c r h.1)

variable {m c} {R : Reals} (H : Holds m c R)
include H

theorem p_val (b : Fin 4) (y x : Fin 224) : @Eq EReal ((W3 m c (Proc.devRef .tc main_v12) : Vec Ideal S4x224x224x1 .f32) (ix4 b y x 0)) (R.p b y x : ℝ) := by
  refine (h1_p (W2 m c) b y x).trans ?_
  rw [arg_kept m c main_arg1 (by decide) (by decide)]
  exact H.p b y x

/-- The first layer's array. -/
theorem net0_val (b : Fin 4) (y x : Fin 224) (o : Fin 96) : @Eq EReal ((W4 m c (Proc.devRef .tc main_v31) : Vec Ideal S4x224x224x96 .bf16) (ix4 b y x o)) (R.net0 b y x o : ℝ) := by
  unfold W4
  rw [Function.update_self, arr1]
  refine layS_net R _ _ _ _ (fun b y x k => ?_) (p_val H) (fun a e k o => ?_) (fun o => ?_) (fun o => ?_) b y x o
  · refine (h1_x (W2 m c) b y x k).trans ?_
    rw [arg_kept m c main_arg0 (by decide) (by decide)]
    exact H.x b y x k
  · refine (h1_w0 (W2 m c) a e k o).trans ?_
    rw [arg_kept m c main_arg3 (by decide) (by decide)]
    exact H.w0 o a e k
  · exact ((h1_r0 (W2 m c) o).trans (mask_val m c o 0 0)).trans (H.d 0 o)
  · exact ((h1_r1 (W2 m c) o).trans (mask_val m c o 0 1)).trans (H.s 0 o)

/-- A later layer's array, from what the host stretch before it makes of the mask's columns `v6` and `v9`, which are as the first layer's region found them. -/
theorem next_val (j i : Fin 4) {Q : Fin 4 → Fin 224 → Fin 224 → Fin 96 → ℝ} {v6 v9 : Vec Ideal S96x4 .f32}
    (h6 : v6 = W3 m c (Proc.devRef .tc main_v6)) (h9 : v9 = W3 m c (Proc.devRef .tc main_v9))
    {A : Vec Ideal S4x224x224x96 .bf16} {p : Vec Ideal S4x224x224x1 .f32} {w : Vec Ideal S3x3x96x96 .f32} {rc : Vec Ideal S8x96 .f32} {cc : Vec Ideal S96x8 .f32}
    (hA : ∀ b y x k, @Eq EReal (A (ix4 b y x k)) (Q b y x k : ℝ)) (hp : p = W3 m c (Proc.devRef .tc main_v12)) (hw : ∀ a e k o, @Eq EReal (w (ix4 a e k o)) (R.w i o a e k : ℝ))
    (h1 : ∀ (o : Fin 96) (d s : EReal), v6 (ix2 o i) = d → v9 (ix2 o i) = s → rc (ix2 1 o) = d + s) (h2 : ∀ o : Fin 96, rc (ix2 2 o) = v6 (ix2 o i))
    (hc : ∀ k : Fin 96, cc (ix2 k 0) = v6 (ix2 k j)) (b : Fin 4) (y x : Fin 224) (o : Fin 96) :
    @Eq EReal (layD A p w rc cc (ix4 b y x o)) (R.next j i Q b y x o : ℝ) := by
  subst h6 h9 hp
  have d6 (i : Fin 4) (o : Fin 96) := (v6_val m c o i).trans (H.d i o)
  exact layD_net R j i Q A _ w rc cc hA (p_val H) hw (fun o => h1 o _ _ (d6 i o) ((v9_val m c o i).trans (H.s i o)))
    (fun o => (h2 o).trans (d6 i o)) (fun k => (hc k).trans (d6 j k)) b y x o

/-- The second layer's array. -/
theorem net1_val (b : Fin 4) (y x : Fin 224) (o : Fin 96) : @Eq EReal ((W6 m c (Proc.devRef .tc main_v47) : Vec Ideal S4x224x224x96 .bf16) (ix4 b y x o)) (R.net1 b y x o : ℝ) := by
  unfold W6
  rw [Function.update_self, arr2]
  exact next_val H 0 1 (W4_of m c main_v6 (by decide)) (W4_of m c main_v9 (by decide))
    (fun b y x k => (congrFun (W5_of m c main_v31 (by decide)) _).trans (net0_val H b y x k)) (kept5 m c main_v12 (by decide))
    (fun a e k o => ((congrFun (kept5 m c main_v14 (by decide)) _).trans (h1_w1 (W2 m c) a e k o)).trans
      ((congrFun (arg_kept m c main_arg4 (by decide) (by decide)) _).trans (H.w1 o a e k)))
    (h2_r1 (W4 m c)) (h2_r2 (W4 m c)) (h2_cc (W4 m c)) b y x o

/-- The third layer's array. -/
theorem net2_val (b : Fin 4) (y x : Fin 224) (o : Fin 96) : @Eq EReal ((W8 m c (Proc.devRef .tc main_v63) : Vec Ideal S4x224x224x96 .bf16) (ix4 b y x o)) (R.net2 b y x o : ℝ) := by
  unfold W8
  rw [Function.update_self, arr3]
  exact next_val H 1 2 ((W6_of m c main_v6 (by decide)).trans (kept5 m c main_v6 (by decide))) ((W6_of m c main_v9 (by decide)).trans (kept5 m c main_v9 (by decide)))
    (fun b y x k => (congrFun (W7_of m c main_v47 (by decide)) _).trans (net1_val H b y x k)) (kept7 m c main_v12 (by decide))
    (fun a e k o => ((congrFun (kept7 m c main_v15 (by decide)) _).trans (h1_w2 (W2 m c) a e k o)).trans
      ((congrFun (arg_kept m c main_arg5 (by decide) (by decide)) _).trans (H.w2 o a e k)))
    (h3_r1 (W6 m c)) (h3_r2 (W6 m c)) (h3_cc (W6 m c)) b y x o

/-- The fourth layer's array. -/
theorem net3_val (b : Fin 4) (y x : Fin 224) (o : Fin 96) : @Eq EReal ((W10 m c (Proc.devRef .tc main_v79) : Vec Ideal S4x224x224x96 .bf16) (ix4 b y x o)) (R.net3 b y x o : ℝ) := by
  unfold W10
  rw [Function.update_self, arr4]
  exact next_val H 2 3 ((W8_of m c main_v6 (by decide)).trans (kept7 m c main_v6 (by decide))) ((W8_of m c main_v9 (by decide)).trans (kept7 m c main_v9 (by decide)))
    (fun b y x k => (congrFun (W9_of m c main_v63 (by decide)) _).trans (net2_val H b y x k)) (kept9 m c main_v12 (by decide))
    (fun a e k o => ((congrFun (kept9 m c main_v16 (by decide)) _).trans (h1_w3 (W2 m c) a e k o)).trans
      ((congrFun (arg_kept m c main_arg6 (by decide) (by decide)) _).trans (H.w3 o a e k)))
    (h4_r1 (W8 m c)) (h4_r2 (W8 m c)) (h4_cc (W8 m c)) b y x o

/-- The kernel's first result. -/
theorem final_val (b : Fin 4) (o : Fin 96) (y x : Fin 224) :
    @Eq EReal ((W13 m c (Proc.devRef .tc main_v84) : Vec Ideal S4x96x224x224 .f32) (ix4 b o y x))
      (∑ k : Fin 96, ((R.net0 b y x k : ℝ) : EReal) * ((W0 m c (Proc.devRef .tc main_arg7) : Vec Ideal S96x384x1x1 .f32) (ix4 o ⟨k.val, by omega⟩ 0 0) : EReal)
        + ∑ k : Fin 96, ((R.net1 b y x k : ℝ) : EReal) * ((W0 m c (Proc.devRef .tc main_arg7) : Vec Ideal S96x384x1x1 .f32) (ix4 o ⟨96 + k.val, by omega⟩ 0 0) : EReal)
        + ∑ k : Fin 96, ((R.net2 b y x k : ℝ) : EReal) * ((W0 m c (Proc.devRef .tc main_arg7) : Vec Ideal S96x384x1x1 .f32) (ix4 o ⟨192 + k.val, by omega⟩ 0 0) : EReal)
        + ∑ k : Fin 96, ((R.net3 b y x k : ℝ) : EReal) * ((W0 m c (Proc.devRef .tc main_arg7) : Vec Ideal S96x384x1x1 .f32) (ix4 o ⟨288 + k.val, by omega⟩ 0 0) : EReal)
        + ((W0 m c (Proc.devRef .tc main_arg8) : Vec Ideal S96 .f32) (ix1 o) : EReal)) := by
  refine (h6_out (W12 m c) b o y x).trans ?_
  unfold W12
  rw [Function.update_self, arr5]
  have a0 : ∀ k, @Eq EReal ((W11 m c (Proc.devRef .tc main_v31) : Vec Ideal S4x224x224x96 .bf16) (ix4 b y x k)) (R.net0 b y x k : ℝ) := fun k => by
    rw [W11_of m c main_v31 (by decide), W10_of m c main_v31 (by decide), W9_of m c main_v31 (by decide), W8_of m c main_v31 (by decide), W7_of m c main_v31 (by decide), W6_of m c main_v31 (by decide), W5_of m c main_v31 (by decide)]
    exact net0_val H b y x k
  have a1 : ∀ k, @Eq EReal ((W11 m c (Proc.devRef .tc main_v47) : Vec Ideal S4x224x224x96 .bf16) (ix4 b y x k)) (R.net1 b y x k : ℝ) := fun k => by
    rw [W11_of m c main_v47 (by decide), W10_of m c main_v47 (by decide), W9_of m c main_v47 (by decide), W8_of m c main_v47 (by decide), W7_of m c main_v47 (by decide)]
    exact net1_val H b y x k
  have a2 : ∀ k, @Eq EReal ((W11 m c (Proc.devRef .tc main_v63) : Vec Ideal S4x224x224x96 .bf16) (ix4 b y x k)) (R.net2 b y x k : ℝ) := fun k => by
    rw [W11_of m c main_v63 (by decide), W10_of m c main_v63 (by decide), W9_of m c main_v63 (by decide)]
    exact net2_val H b y x k
  have a3 : ∀ k, @Eq EReal ((W11 m c (Proc.devRef .tc main_v79) : Vec Ideal S4x224x224x96 .bf16) (ix4 b y x k)) (R.net3 b y x k : ℝ) := fun k => by
    rw [W11_of m c main_v79 (by decide)]
    exact net3_val H b y x k
  have aw : ∀ k : Fin 384, @Eq EReal ((W11 m c (Proc.devRef .tc main_v19) : Vec Ideal S384x96 .bf16) (ix2 k o)) ((W0 m c (Proc.devRef .tc main_arg7) : Vec Ideal S96x384x1x1 .f32) (ix4 o k 0 0)) := fun k => by
    rw [W11_of m c main_v19 (by decide), W10_of m c main_v19 (by decide), W9_of m c main_v19 (by decide), W8_of m c main_v19 (by decide), W7_of m c main_v19 (by decide), W6_of m c main_v19 (by decide), W5_of m c main_v19 (by decide), W4_of m c main_v19 (by decide)]
    refine (h1_wc (W2 m c) k o).trans ?_
    rw [arg_kept m c main_arg7 (by decide) (by decide)]
  have az : @Eq EReal ((W11 m c (Proc.devRef .tc main_v82) : Vec Ideal S8x96 .f32) (ix2 0 o)) ((W0 m c (Proc.devRef .tc main_arg8) : Vec Ideal S96 .f32) (ix1 o)) := by
    refine (h5_z (W10 m c) o).trans ?_
    rw [W10_of m c main_arg8 (by decide), W9_of m c main_arg8 (by decide), W8_of m c main_arg8 (by decide), W7_of m c main_arg8 (by decide), W6_of m c main_arg8 (by decide), W5_of m c main_arg8 (by decide), W4_of m c main_arg8 (by decide), W3_of m c main_arg8 (by decide), W2_of m c main_arg8 (by decide), W1_of m c main_arg8 (by decide)]
  simp only [← a0, ← a1, ← a2, ← a3, ← aw, ← az]
  exact bias_last _ _ _ _ _

end Cert.KernelIdeal.Conv
-- ==== Proof.RefVal.lean ====
module
public import proofs.«01_k».proof.Proof.Gen.ReferenceIdeal.Run
public import proofs.«01_k».proof.Proof.Soft
public import Idealize.ShloMosaic.Lib.Pointwise
public import Idealize.ShloMosaic.PureOps.Ideal.Laws
@[expose] public section
set_option maxRecDepth 16384
noncomputable section
namespace Cert.ReferenceIdeal.Conv
open Idealize.ShloMosaic
open Cert.ReferenceIdeal.Gen Cert.Conv
open Cert.ReferenceIdeal.Value

/-- The maximum over the last axis of the mask's parameter. -/
theorem rowMax (x : Vec Ideal S1x96x4x2 .f32) (c : Fin 96) (i : Fin 4) (z : Fin 2 → EReal) (hz : ∀ k, x (ix4 0 c i k) = z k) :
    Host.reduce (α := Ideal .f32) (FloatOps.maximumf (F := Ideal)) x (constant (F := Ideal) S_ .f32 0xFF800000#32) reducesTo_S1x96x4x2_S1x96x4_d3 h_S_ (ix3 0 c i)
      = max (z 0) (z 1) := by
  pointwise
  rw [← fold_two z, ← funext hz]

theorem v6_apply (V0 : Valuation τ sig (Elt Ideal)) (c : Fin 96) (i : Fin 4) (k : Fin 2) :
    (res_main_v6 V0 : Vec Ideal S1x96x4x2 .f32) (ix4 0 c i k) = noisy ((V0 (Proc.devRef .tc main_arg2) : Vec Ideal S1x96x4x2 .f32) (ix4 0 c i k)) ((V0 (Proc.devRef .tc main_arg9) : Vec Ideal S1x96x4x2 .f32) (ix4 0 c i k)) := by
  pointwise [res_main_v6]
  rw [div_one]
  rfl

theorem v13_apply (V0 : Valuation τ sig (Elt Ideal)) (c : Fin 96) (i : Fin 4) (z : Fin 2 → EReal)
    (hz : ∀ k, (res_main_v6 V0 : Vec Ideal S1x96x4x2 .f32) (ix4 0 c i k) = z k) (k : Fin 2) :
    (res_main_v13 V0 : Vec Ideal S1x96x4x2 .f32) (ix4 0 c i k) = Ideal.exp (z k - max (z 0) (z 1)) := by
  rw [← rowMax (res_main_v6 V0) c i z hz, ← hz k]
  unfold res_main_v13
  generalize (Host.reduce (α := Ideal .f32) (FloatOps.maximumf (F := Ideal)) (res_main_v6 V0 : Vec Ideal S1x96x4x2 .f32) (constant (F := Ideal) S_ .f32 0xFF800000#32) reducesTo_S1x96x4x2_S1x96x4_d3 h_S_ : Vec Ideal S1x96x4 .f32) = M
  pointwise
  rw [ofBits_negInf, max_eq_right bot_le]

/-- The reference's channel mask. -/
theorem mask_apply (V0 : Valuation τ sig (Elt Ideal)) (c : Fin 96) (i : Fin 4) (k : Fin 2) :
    (res_main_v17 V0 : Vec Ideal S1x96x4x2 .f32) (ix4 0 c i k)
      = soft (fun e => noisy ((V0 (Proc.devRef .tc main_arg2) : Vec Ideal S1x96x4x2 .f32) (ix4 0 c i e)) ((V0 (Proc.devRef .tc main_arg9) : Vec Ideal S1x96x4x2 .f32) (ix4 0 c i e))) k := by
  unfold soft
  simp only [← v13_apply V0 c i (fun e => noisy ((V0 (Proc.devRef .tc main_arg2) : Vec Ideal S1x96x4x2 .f32) (ix4 0 c i e)) ((V0 (Proc.devRef .tc main_arg9) : Vec Ideal S1x96x4x2 .f32) (ix4 0 c i e))) (v6_apply V0 c i)]
  pointwise [res_main_v17]
  rw [Fin.sum_univ_two]

/-- The reference's padding is the border of zeros. -/
theorem pad_apply (A : Vec Ideal S4x96x224x224 .f32) (b : Fin 4) (c : Fin 96) (y x : Fin 226) :
    pad S4x96x226x226 ![0, 0, 1, 1] ![0, 0, 1, 1] ![0, 0, 0, 0] A (sitofp (F := Ideal) .f32 (constantI S_ 32 0#32)) pads_S4x96x224x224_S4x96x226x226_000_000_110_110 h_S_ (ix4 b c y x)
      = border (fun r q c => (A (ix4 b c r q) : EReal)) y.val x.val c := by
  have h0 : FloatOps.sitofp (F := Ideal) .f32 (0#32) = (0 : EReal) := by
    show (((0#32).toInt : ℝ) : EReal) = 0
    simp
  pointwise [border]
  rw [h0]
  by_cases h : (1 ≤ y.val ∧ y.val ≤ 224) ∧ 1 ≤ x.val ∧ x.val ≤ 224
  · rw [dif_pos h, dif_pos (by omega)]
  · rw [dif_neg h, dif_neg (by omega)]

/-- The nine sums the reference adds are the convolution of the padded image. -/
theorem conv_of_padded (W : Vec Ideal S96x96x3x3 .f32) (xp : Vec Ideal S4x96x226x226 .f32) (X : ℕ → ℕ → Fin 96 → EReal) (b : Fin 4)
    (hX : ∀ (c : Fin 96) (r q : Fin 226), xp (ix4 b c r q) = X r.val q.val c) (o : Fin 96) (y x : Fin 224) :
    ∑ c, (W (ix4 o c 0 0) : EReal) * (xp (ix4 b c ⟨y.val, by omega⟩ ⟨x.val, by omega⟩) : EReal)
      + ∑ c, (W (ix4 o c 0 1) : EReal) * (xp (ix4 b c ⟨y.val, by omega⟩ ⟨1 + x.val, by omega⟩) : EReal)
      + ∑ c, (W (ix4 o c 0 2) : EReal) * (xp (ix4 b c ⟨y.val, by omega⟩ ⟨2 + x.val, by omega⟩) : EReal)
      + ∑ c, (W (ix4 o c 1 0) : EReal) * (xp (ix4 b c ⟨1 + y.val, by omega⟩ ⟨x.val, by omega⟩) : EReal)
      + ∑ c, (W (ix4 o c 1 1) : EReal) * (xp (ix4 b c ⟨1 + y.val, by omega⟩ ⟨1 + x.val, by omega⟩) : EReal)
      + ∑ c, (W (ix4 o c 1 2) : EReal) * (xp (ix4 b c ⟨1 + y.val, by omega⟩ ⟨2 + x.val, by omega⟩) : EReal)
      + ∑ c, (W (ix4 o c 2 0) : EReal) * (xp (ix4 b c ⟨2 + y.val, by omega⟩ ⟨x.val, by omega⟩) : EReal)
      + ∑ c, (W (ix4 o c 2 1) : EReal) * (xp (ix4 b c ⟨2 + y.val, by omega⟩ ⟨1 + x.val, by omega⟩) : EReal)
      + ∑ c, (W (ix4 o c 2 2) : EReal) * (xp (ix4 b c ⟨2 + y.val, by omega⟩ ⟨2 + x.val, by omega⟩) : EReal)
      = conv X (fun a e c => (W (ix4 o c a e) : EReal)) y.val x.val := by
  unfold conv tap
  simp only [hX, mul_comm]

theorem conv0_apply (V0 : Valuation τ sig (Elt Ideal)) (X : ℕ → ℕ → Fin 96 → EReal) (b : Fin 4)
    (hX : ∀ (c : Fin 96) (r q : Fin 226), (res_main_v18 V0 : Vec Ideal S4x96x226x226 .f32) (ix4 b c r q) = X r.val q.val c) (o : Fin 96) (y x : Fin 224) :
    res_main_v71 V0 (ix4 b o y x) = conv X (fun a e c => ((V0 (Proc.devRef .tc main_arg3) : Vec Ideal S96x96x3x3 .f32) (ix4 o c a e) : EReal)) y.val x.val := by
  rw [← conv_of_padded _ _ X b hX o y x]
  pointwise [res_main_v71]
-- ==== Proof.RefNet.lean ====
module
public import proofs.«01_k».proof.Proof.RefVal
public import proofs.«01_k».proof.Proof.Net
@[expose] public section
set_option maxRecDepth 16384
noncomputable section
namespace Cert.ReferenceIdeal.Conv
open Idealize.ShloMosaic
open Cert.ReferenceIdeal.Gen Cert.ReferenceIdeal.Value Cert.Conv

/-- The reference's arguments and channel mask hold the reals `R`. -/
structure Holds (V0 : Valuation τ sig (Elt Ideal)) (R : Reals) : Prop where
  x : ∀ b y x c, @Eq EReal ((V0 (Proc.devRef .tc main_arg0) : Vec Ideal S4x96x224x224 .f32) (ix4 b c y x)) ((R.x b y x c : ℝ) : EReal)
  p : ∀ b y x, @Eq EReal ((V0 (Proc.devRef .tc main_arg1) : Vec Ideal S4x1x224x224 .f32) (ix4 b 0 y x)) ((R.p b y x : ℝ) : EReal)
  w0 : ∀ o a e c, @Eq EReal ((V0 (Proc.devRef .tc main_arg3) : Vec Ideal S96x96x3x3 .f32) (ix4 o c a e)) ((R.w 0 o a e c : ℝ) : EReal)
  w1 : ∀ o a e c, @Eq EReal ((V0 (Proc.devRef .tc main_arg4) : Vec Ideal S96x96x3x3 .f32) (ix4 o c a e)) ((R.w 1 o a e c : ℝ) : EReal)
  w2 : ∀ o a e c, @Eq EReal ((V0 (Proc.devRef .tc main_arg5) : Vec Ideal S96x96x3x3 .f32) (ix4 o c a e)) ((R.w 2 o a e c : ℝ) : EReal)
  w3 : ∀ o a e c, @Eq EReal ((V0 (Proc.devRef .tc main_arg6) : Vec Ideal S96x96x3x3 .f32) (ix4 o c a e)) ((R.w 3 o a e c : ℝ) : EReal)
  d : ∀ i c, @Eq EReal ((res_main_v17 V0 : Vec Ideal S1x96x4x2 .f32) (ix4 0 c i 0)) ((R.d i c : ℝ) : EReal)
  s : ∀ i c, @Eq EReal ((res_main_v17 V0 : Vec Ideal S1x96x4x2 .f32) (ix4 0 c i 1)) ((R.s i c : ℝ) : EReal)

/-- The reference's fourth layer, which its last term holds in place. -/
def last (V0 : Valuation τ sig (Elt Ideal)) : Vec Ideal S4x96x224x224 .f32 :=
  let s := broadcastInDim S4x96x224x224 ![0, 1, 2, 3] bcast_S1x96x1x1_S4x96x224x224_0_1_2_3 (extractStridedSlice S1x96x1x1 ![0, 0, 3, 1] (res_main_v17 V0) slices_S1x96x4x2_S1x96x1x1_0_0_3_1)
  let d := broadcastInDim S4x96x224x224 ![0, 1, 2, 3] bcast_S1x96x1x1_S4x96x224x224_0_1_2_3 (extractStridedSlice S1x96x1x1 ![0, 0, 3, 0] (res_main_v17 V0) slices_S1x96x4x2_S1x96x1x1_0_0_3_0)
  let p := broadcastInDim S4x96x224x224 ![0, 1, 2, 3] bcast_S4x1x224x224_S4x96x224x224_0_1_2_3 (V0 (Proc.devRef .tc main_arg1))
  maximumf (addf (addf (addf (mulf (mulf (res_main_v410 V0) s) p) (mulf (res_main_v410 V0) d)) (mulf (mulf (res_main_v467 V0) s) p)) (mulf (mulf (res_main_v467 V0) d) p)) (broadcastInDim S4x96x224x224 ![] bcast_S_S4x96x224x224 (constant (F := Ideal) S_ .f32 0x00000000#32))

/-- The reference's mix of four images. -/
def refMix (A0 A1 A2 A3 : Vec Ideal S4x96x224x224 .f32) (w : Vec Ideal S96x384x1x1 .f32) (z : Vec Ideal S96 .f32) : Vec Ideal S4x96x224x224 .f32 :=
  addf (F := Ideal) (transpose S4x96x224x224 [1, 0, 2, 3] (Host.dotGeneral (F := Ideal) (φ₁ := .f32) (φ₂ := .f32) dot_S96x384_S4x384x224x224_S96x4x224x224_1_1_0_023_n_n none (shapeCast S96x384 w shapeCasts_S96x384x1x1_S96x384)
    (concatenate S4x384x224x224 1 [⟨S4x96x224x224, A0⟩, ⟨S4x96x224x224, A1⟩, ⟨S4x96x224x224, A2⟩, ⟨S4x96x224x224, A3⟩] concatenates_S4x96x224x224_S4x96x224x224_S4x96x224x224_S4x96x224x224_S4x384x224x224_d1))
    transposes_S96x4x224x224_S4x96x224x224_1_0_2_3)
    (broadcastInDim S4x96x224x224 ![0, 1, 2, 3] bcast_S1x96x1x1_S4x96x224x224_0_1_2_3 (shapeCast S1x96x1x1 z shapeCasts_S96_S1x96x1x1))

/-- A sum over the channels of four images, image by image. -/
theorem sum_four (f : Fin 384 → EReal) :
    ∑ k, f k = ∑ k : Fin 96, f ⟨k.val, by omega⟩ + ∑ k : Fin 96, f ⟨96 + k.val, by omega⟩ + ∑ k : Fin 96, f ⟨192 + k.val, by omega⟩ + ∑ k : Fin 96, f ⟨288 + k.val, by omega⟩ := by
  have h1 : ∑ k, f k = ∑ k : Fin (288 + 96), f (Fin.cast rfl k) := rfl
  have h2 : ∀ g : Fin 288 → EReal, ∑ k, g k = ∑ k : Fin (192 + 96), g (Fin.cast rfl k) := fun _ => rfl
  have h3 : ∀ g : Fin 192 → EReal, ∑ k, g k = ∑ k : Fin (96 + 96), g (Fin.cast rfl k) := fun _ => rfl
  rw [h1, Fin.sum_univ_add, h2, Fin.sum_univ_add, h3, Fin.sum_univ_add]
  rfl

theorem refMix_apply (A0 A1 A2 A3 : Vec Ideal S4x96x224x224 .f32) (w : Vec Ideal S96x384x1x1 .f32) (z : Vec Ideal S96 .f32) (b : Fin 4) (o : Fin 96) (y x : Fin 224) :
    refMix A0 A1 A2 A3 w z (ix4 b o y x)
      = (∑ k : Fin 96, A0 (ix4 b k y x) * w (ix4 o ⟨k.val, by omega⟩ 0 0) + ∑ k : Fin 96, A1 (ix4 b k y x) * w (ix4 o ⟨96 + k.val, by omega⟩ 0 0)
        + ∑ k : Fin 96, A2 (ix4 b k y x) * w (ix4 o ⟨192 + k.val, by omega⟩ 0 0) + ∑ k : Fin 96, A3 (ix4 b k y x) * w (ix4 o ⟨288 + k.val, by omega⟩ 0 0) + z (ix1 o) : EReal) := by
  pointwise [refMix]
  rw [sum_four]
  refine congrArg (· + (z (ix1 o) : EReal)) (congrArg₂ (· + ·) (congrArg₂ (· + ·) (congrArg₂ (· + ·) ?_ ?_) ?_) ?_) <;>
    refine Finset.sum_congr rfl fun k _ => ?_
  · rw [dif_pos (by exact k.isLt)]
    exact mul_comm _ _
  · rw [dif_neg (by show ¬ 96 + k.val < 96; omega), dif_pos (by show 96 + k.val - 96 < 96; omega)]
    simp only [Nat.add_sub_cancel_left]
    exact mul_comm _ _
  · rw [dif_neg (by show ¬ 192 + k.val < 96; omega), dif_neg (by show ¬ 192 + k.val - 96 < 96; omega), dif_pos (by show 192 + k.val - 96 - 96 < 96; omega)]
    have hk : (⟨192 + k.val - 96 - 96, by omega⟩ : Fin 96) = k := Fin.ext (by show 192 + k.val - 96 - 96 = k.val; omega)
    rw [hk]
    exact mul_comm _ _
  · rw [dif_neg (by show ¬ 288 + k.val < 96; omega), dif_neg (by show ¬ 288 + k.val - 96 < 96; omega), dif_neg (by show ¬ 288 + k.val - 96 - 96 < 96; omega)]
    have hk : (⟨288 + k.val - 96 - 96 - 96, by omega⟩ : Fin 96) = k := Fin.ext (by show 288 + k.val - 96 - 96 - 96 = k.val; omega)
    rw [hk]
    exact mul_comm _ _

theorem final_eq (V0 : Valuation τ sig (Elt Ideal)) :
    val9 V0 (Proc.devRef .tc main_v496) = refMix (res_main_v81 V0) (res_main_v217 V0) (res_main_v353 V0) (last V0) (V0 (Proc.devRef .tc main_arg7)) (V0 (Proc.devRef .tc main_arg8)) :=
  val9_main_v496 V0

variable (V0 : Valuation τ sig (Elt Ideal)) (X : ℕ → ℕ → Fin 96 → EReal) (b : Fin 4)

theorem conv1d_apply (hX : ∀ (c : Fin 96) (r q : Fin 226), (res_main_v85 V0 : Vec Ideal S4x96x226x226 .f32) (ix4 b c r q) = X r.val q.val c) (o : Fin 96) (y x : Fin 224) :
    res_main_v138 V0 (ix4 b o y x) = conv X (fun a e c => ((V0 (Proc.devRef .tc main_arg4) : Vec Ideal S96x96x3x3 .f32) (ix4 o c a e) : EReal)) y.val x.val := by
  rw [← conv_of_padded _ _ X b hX o y x]
  pointwise [res_main_v138]

theorem conv1s_apply (hX : ∀ (c : Fin 96) (r q : Fin 226), (res_main_v142 V0 : Vec Ideal S4x96x226x226 .f32) (ix4 b c r q) = X r.val q.val c) (o : Fin 96) (y x : Fin 224) :
    res_main_v195 V0 (ix4 b o y x) = conv X (fun a e c => ((V0 (Proc.devRef .tc main_arg4) : Vec Ideal S96x96x3x3 .f32) (ix4 o c a e) : EReal)) y.val x.val := by
  rw [← conv_of_padded _ _ X b hX o y x]
  pointwise [res_main_v195]

theorem conv2d_apply (hX : ∀ (c : Fin 96) (r q : Fin 226), (res_main_v221 V0 : Vec Ideal S4x96x226x226 .f32) (ix4 b c r q) = X r.val q.val c) (o : Fin 96) (y x : Fin 224) :
    res_main_v274 V0 (ix4 b o y x) = conv X (fun a e c => ((V0 (Proc.devRef .tc main_arg5) : Vec Ideal S96x96x3x3 .f32) (ix4 o c a e) : EReal)) y.val x.val := by
  rw [← conv_of_padded _ _ X b hX o y x]
  pointwise [res_main_v274]

theorem conv2s_apply (hX : ∀ (c : Fin 96) (r q : Fin 226), (res_main_v278 V0 : Vec Ideal S4x96x226x226 .f32) (ix4 b c r q) = X r.val q.val c) (o : Fin 96) (y x : Fin 224) :
    res_main_v331 V0 (ix4 b o y x) = conv X (fun a e c => ((V0 (Proc.devRef .tc main_arg5) : Vec Ideal S96x96x3x3 .f32) (ix4 o c a e) : EReal)) y.val x.val := by
  rw [← conv_of_padded _ _ X b hX o y x]
  pointwise [res_main_v331]

theorem conv3d_apply (hX : ∀ (c : Fin 96) (r q : Fin 226), (res_main_v357 V0 : Vec Ideal S4x96x226x226 .f32) (ix4 b c r q) = X r.val q.val c) (o : Fin 96) (y x : Fin 224) :
    res_main_v410 V0 (ix4 b o y x) = conv X (fun a e c => ((V0 (Proc.devRef .tc main_arg6) : Vec Ideal S96x96x3x3 .f32) (ix4 o c a e) : EReal)) y.val x.val := by
  rw [← conv_of_padded _ _ X b hX o y x]
  pointwise [res_main_v410]

theorem conv3s_apply (hX : ∀ (c : Fin 96) (r q : Fin 226), (res_main_v414 V0 : Vec Ideal S4x96x226x226 .f32) (ix4 b c r q) = X r.val q.val c) (o : Fin 96) (y x : Fin 224) :
    res_main_v467 V0 (ix4 b o y x) = conv X (fun a e c => ((V0 (Proc.devRef .tc main_arg6) : Vec Ideal S96x96x3x3 .f32) (ix4 o c a e) : EReal)) y.val x.val := by
  rw [← conv_of_padded _ _ X b hX o y x]
  pointwise [res_main_v467]

variable {V0} {R : Reals} (H : Holds V0 R)
include H

/-- The first layer's image. -/
theorem layer0 (o : Fin 96) (y x : Fin 224) : @Eq EReal ((res_main_v81 V0 : Vec Ideal S4x96x224x224 .f32) (ix4 b o y x)) ((R.net0 b y x o : ℝ) : EReal) := by
  have hX : ∀ (c : Fin 96) (r q : Fin 226), (res_main_v18 V0 : Vec Ideal S4x96x226x226 .f32) (ix4 b c r q) = border (fun r q c => ((R.x b r q c : ℝ) : EReal)) r.val q.val c := fun c r q => by
    unfold res_main_v18
    refine (pad_apply _ b c r q).trans ?_
    simp only [H.x]
  have hc := conv0_apply V0 _ b hX o y x
  simp only [H.w0] at hc
  have h1 := H.p b y x
  have h2 := H.d 0 o
  have h3 := H.s 0 o
  unfold Reals.net0
  rw [← first_reference, ← hc, ← h1, ← h2, ← h3]
  pointwise [res_main_v81]

/-- The second layer's image. -/
theorem layer1 (o : Fin 96) (y x : Fin 224) : @Eq EReal ((res_main_v217 V0 : Vec Ideal S4x96x224x224 .f32) (ix4 b o y x)) ((R.net1 b y x o : ℝ) : EReal) := by
  have hD : ∀ (c : Fin 96) (r q : Fin 226), (res_main_v85 V0 : Vec Ideal S4x96x226x226 .f32) (ix4 b c r q) = border (fun r q c => ((R.net0 b r q c : ℝ) : EReal) * (R.d 0 c : EReal)) r.val q.val c := fun c r q => by
    unfold res_main_v85
    refine (pad_apply _ b c r q).trans ?_
    simp only [← layer0 b H, ← H.d]
    pointwise
  have hS : ∀ (c : Fin 96) (r q : Fin 226), (res_main_v142 V0 : Vec Ideal S4x96x226x226 .f32) (ix4 b c r q) = border (fun r q c => ((R.net0 b r q c : ℝ) : EReal) * (R.s 0 c : EReal)) r.val q.val c := fun c r q => by
    unfold res_main_v142
    refine (pad_apply _ b c r q).trans ?_
    simp only [← layer0 b H, ← H.s]
    pointwise
  have hcd := conv1d_apply V0 _ b hD o y x
  have hcs := conv1s_apply V0 _ b hS o y x
  simp only [H.w1] at hcd hcs
  have h1 := H.p b y x
  have h2 := H.d 1 o
  have h3 := H.s 1 o
  unfold Reals.net1 Reals.next
  rw [← later_reference _ _ _ _ (hds := R.share 0), ← hcd, ← hcs, ← h1, ← h2, ← h3]
  pointwise [res_main_v217]

/-- The third layer's image. -/
theorem layer2 (o : Fin 96) (y x : Fin 224) : @Eq EReal ((res_main_v353 V0 : Vec Ideal S4x96x224x224 .f32) (ix4 b o y x)) ((R.net2 b y x o : ℝ) : EReal) := by
  have hD : ∀ (c : Fin 96) (r q : Fin 226), (res_main_v221 V0 : Vec Ideal S4x96x226x226 .f32) (ix4 b c r q) = border (fun r q c => ((R.net1 b r q c : ℝ) : EReal) * (R.d 1 c : EReal)) r.val q.val c := fun c r q => by
    unfold res_main_v221
    refine (pad_apply _ b c r q).trans ?_
    simp only [← layer1 b H, ← H.d]
    pointwise
  have hS : ∀ (c : Fin 96) (r q : Fin 226), (res_main_v278 V0 : Vec Ideal S4x96x226x226 .f32) (ix4 b c r q) = border (fun r q c => ((R.net1 b r q c : ℝ) : EReal) * (R.s 1 c : EReal)) r.val q.val c := fun c r q => by
    unfold res_main_v278
    refine (pad_apply _ b c r q).trans ?_
    simp only [← layer1 b H, ← H.s]
    pointwise
  have hcd := conv2d_apply V0 _ b hD o y x
  have hcs := conv2s_apply V0 _ b hS o y x
  simp only [H.w2] at hcd hcs
  have h1 := H.p b y x
  have h2 := H.d 2 o
  have h3 := H.s 2 o
  unfold Reals.net2 Reals.next
  rw [← later_reference _ _ _ _ (hds := R.share 1), ← hcd, ← hcs, ← h1, ← h2, ← h3]
  pointwise [res_main_v353]

/-- The fourth layer's image. -/
theorem layer3 (o : Fin 96) (y x : Fin 224) : @Eq EReal (last V0 (ix4 b o y x)) ((R.net3 b y x o : ℝ) : EReal) := by
  have hD : ∀ (c : Fin 96) (r q : Fin 226), (res_main_v357 V0 : Vec Ideal S4x96x226x226 .f32) (ix4 b c r q) = border (fun r q c => ((R.net2 b r q c : ℝ) : EReal) * (R.d 2 c : EReal)) r.val q.val c := fun c r q => by
    unfold res_main_v357
    refine (pad_apply _ b c r q).trans ?_
    simp only [← layer2 b H, ← H.d]
    pointwise
  have hS : ∀ (c : Fin 96) (r q : Fin 226), (res_main_v414 V0 : Vec Ideal S4x96x226x226 .f32) (ix4 b c r q) = border (fun r q c => ((R.net2 b r q c : ℝ) : EReal) * (R.s 2 c : EReal)) r.val q.val c := fun c r q => by
    unfold res_main_v414
    refine (pad_apply _ b c r q).trans ?_
    simp only [← layer2 b H, ← H.s]
    pointwise
  have hcd := conv3d_apply V0 _ b hD o y x
  have hcs := conv3s_apply V0 _ b hS o y x
  simp only [H.w3] at hcd hcs
  have h1 := H.p b y x
  have h2 := H.d 3 o
  have h3 := H.s 3 o
  unfold Reals.net3 Reals.next
  rw [← later_reference _ _ _ _ (hds := R.share 2), ← hcd, ← hcs, ← h1, ← h2, ← h3]
  pointwise [last]

/-- The reference's first result. -/
theorem final_apply (o : Fin 96) (y x : Fin 224) :
    @Eq EReal ((val9 V0 (Proc.devRef .tc main_v496) : Vec Ideal S4x96x224x224 .f32) (ix4 b o y x))
      (∑ k : Fin 96, ((R.net0 b y x k : ℝ) : EReal) * ((V0 (Proc.devRef .tc main_arg7) : Vec Ideal S96x384x1x1 .f32) (ix4 o ⟨k.val, by omega⟩ 0 0) : EReal)
        + ∑ k : Fin 96, ((R.net1 b y x k : ℝ) : EReal) * ((V0 (Proc.devRef .tc main_arg7) : Vec Ideal S96x384x1x1 .f32) (ix4 o ⟨96 + k.val, by omega⟩ 0 0) : EReal)
        + ∑ k : Fin 96, ((R.net2 b y x k : ℝ) : EReal) * ((V0 (Proc.devRef .tc main_arg7) : Vec Ideal S96x384x1x1 .f32) (ix4 o ⟨192 + k.val, by omega⟩ 0 0) : EReal)
        + ∑ k : Fin 96, ((R.net3 b y x k : ℝ) : EReal) * ((V0 (Proc.devRef .tc main_arg7) : Vec Ideal S96x384x1x1 .f32) (ix4 o ⟨288 + k.val, by omega⟩ 0 0) : EReal)
        + ((V0 (Proc.devRef .tc main_arg8) : Vec Ideal S96 .f32) (ix1 o) : EReal)) := by
  refine (congrFun (final_eq V0) _).trans ((refMix_apply _ _ _ _ _ _ b o y x).trans ?_)
  simp only [← layer0 b H, ← layer1 b H, ← layer2 b H, ← layer3 b H]

end Cert.ReferenceIdeal.Conv
-- ==== Proof.Tame.lean ====
module
public import proofs.«01_k».proof.Pre_tame
public import Idealize.ShloMosaic.PureOps.Ideal.Laws
public import proofs.«01_k».proof.Proof.Soft
@[expose] public section
noncomputable section
namespace Cert.Conv
open Idealize.ShloMosaic

theorem ofBits_posInf : Ideal.ofBits .f32 0x7F800000#32 = ⊤ := by
  simp [Ideal.ofBits, Ideal.ieee]

/-- An extended real of magnitude below infinity is a real. -/
theorem real_of_cmp (x : EReal) (h : Ideal.cmp .olt (max x (-x)) (Ideal.ofBits .f32 0x7F800000#32) = 1#1) : ∃ r : ℝ, x = r := by
  rw [ofBits_posInf] at h
  induction x using EReal.rec with
  | bot => simp [Ideal.cmp] at h
  | top => simp [Ideal.cmp] at h
  | coe r => exact ⟨r, rfl⟩

theorem pos_of_cmp (u : EReal) (h : Ideal.cmp .ogt u (Ideal.ofBits .f32 0x00000000#32) = 1#1) : 0 < u := by
  rw [show Ideal.ofBits .f32 0x00000000#32 = 0 by simp [Ideal.ofBits, Ideal.ieee]] at h
  by_contra hn
  simp [Ideal.cmp, hn] at h

theorem lt_of_cmp (u : EReal) (h : Ideal.cmp .olt u (Ideal.ofBits .f32 0x3F800000#32) = 1#1) : u < 1 := by
  rw [show Ideal.ofBits .f32 0x3F800000#32 = 1 by
    simp [Ideal.ofBits, Ideal.ieee]
    rw [← EReal.coe_mul]
    norm_num] at h
  by_contra hn
  simp [Ideal.cmp, hn] at h

theorem facts : Cert.Pre_tame.Facts := ⟨by decide, by decide, by decide, by decide⟩

open Cert.Pre_tame in
/-- Reading the precondition: the first seven arguments are real everywhere and the noise lies strictly between 0 and 1. -/
theorem tame_real [Facts] (a0 : FVec Ideal S4x96x224x224 .f32) (a1 : FVec Ideal S4x1x224x224 .f32) (a2 : FVec Ideal S1x96x4x2 .f32) (a3 a4 a5 a6 : FVec Ideal S96x96x3x3 .f32)
    (a7 : FVec Ideal S96x384x1x1 .f32) (a8 : FVec Ideal S96 .f32) (a9 : FVec Ideal S1x96x4x2 .f32)
    (h : (fn (F := Ideal) a0 a1 a2 a3 a4 a5 a6 a7 a8 a9).1 = (fun _ => 1#1)
      ∧ (fn (F := Ideal) a0 a1 a2 a3 a4 a5 a6 a7 a8 a9).2.1 = (fun _ => 1#1)
      ∧ (fn (F := Ideal) a0 a1 a2 a3 a4 a5 a6 a7 a8 a9).2.2.1 = (fun _ => 1#1)
      ∧ (fn (F := Ideal) a0 a1 a2 a3 a4 a5 a6 a7 a8 a9).2.2.2.1 = (fun _ => 1#1)
      ∧ (fn (F := Ideal) a0 a1 a2 a3 a4 a5 a6 a7 a8 a9).2.2.2.2.1 = (fun _ => 1#1)
      ∧ (fn (F := Ideal) a0 a1 a2 a3 a4 a5 a6 a7 a8 a9).2.2.2.2.2.1 = (fun _ => 1#1)
      ∧ (fn (F := Ideal) a0 a1 a2 a3 a4 a5 a6 a7 a8 a9).2.2.2.2.2.2.1 = (fun _ => 1#1)
      ∧ (fn (F := Ideal) a0 a1 a2 a3 a4 a5 a6 a7 a8 a9).2.2.2.2.2.2.2.1 = (fun _ => 1#1)
      ∧ (fn (F := Ideal) a0 a1 a2 a3 a4 a5 a6 a7 a8 a9).2.2.2.2.2.2.2.2 = (fun _ => 1#1)) :
    (∀ i, ∃ r : ℝ, @Eq EReal (a0 i) (r : EReal)) ∧ (∀ i, ∃ r : ℝ, @Eq EReal (a1 i) (r : EReal)) ∧ (∀ i, ∃ r : ℝ, @Eq EReal (a2 i) (r : EReal))
      ∧ (∀ i, ∃ r : ℝ, @Eq EReal (a3 i) (r : EReal)) ∧ (∀ i, ∃ r : ℝ, @Eq EReal (a4 i) (r : EReal)) ∧ (∀ i, ∃ r : ℝ, @Eq EReal (a5 i) (r : EReal))
      ∧ (∀ i, ∃ r : ℝ, @Eq EReal (a6 i) (r : EReal)) ∧ (∀ i, (0 : EReal) < a9 i) ∧ (∀ i, (a9 i : EReal) < 1) := by
  obtain ⟨h0, h1, h2, h3, h4, h5, h6, h8, h9⟩ := h
  exact ⟨fun i => real_of_cmp _ (congrFun h0 i), fun i => real_of_cmp _ (congrFun h1 i), fun i => real_of_cmp _ (congrFun h2 i),
    fun i => real_of_cmp _ (congrFun h3 i), fun i => real_of_cmp _ (congrFun h4 i), fun i => real_of_cmp _ (congrFun h5 i),
    fun i => real_of_cmp _ (congrFun h6 i), fun i => pos_of_cmp _ (congrFun h8 i), fun i => lt_of_cmp _ (congrFun h9 i)⟩

end Cert.Conv
end
-- ==== Proof.Algebra.lean ====
module
public import proofs.«01_k».proof.Defs
public import proofs.«01_k».proof.Proof.KernelNet
public import proofs.«01_k».proof.Proof.RefNet
public import proofs.«01_k».proof.Proof.Tame
@[expose] public section
set_option maxRecDepth 16384
noncomputable section
namespace Cert.Conv
open Idealize.ShloMosaic Idealize.ShloMosaic.TcCoe Idealize.SL.Sem Idealize.ShloMosaic.StableHlo

section Holds
open Cert.KernelIdeal Cert.KernelIdeal.Conv

/-- Under the precondition the kernel's arguments and mask hold reals. -/
theorem kernel_holds [Cert.Pre_tame.Facts] (m : (ℓ : Loc nD τ sig) → Buf (Elt Ideal) ℓ) (hp : Cert.Pre_KernelIdeal_tame m) (c : Dev nD) :
    ∃ R : Reals, Holds m c R := by
  obtain ⟨h0, h1, h2, h3, h4, h5, h6, hpos, hlt⟩ := tame_real _ _ _ _ _ _ _ _ _ _ (hp c)
  have hm : ∀ (i : Fin 4) (k : Fin 96), ∃ d s : ℝ, soft (score m c k i) 0 = d ∧ soft (score m c k i) 1 = s ∧ d + s = 1 :=
    fun i k => soft_real _ (fun e => noisy_real _ _ (h2 _) (hpos _) (hlt _))
  choose x hx using h0
  choose p hp using h1
  choose w0 hw0 using h3
  choose w1 hw1 using h4
  choose w2 hw2 using h5
  choose w3 hw3 using h6
  choose d s hd hs hsum using hm
  exact ⟨⟨fun b y xx k => x (ix4 b k y xx), fun b y xx => p (ix4 b 0 y xx),
      fun i o a e k => match i with
        | 0 => w0 (ix4 o k a e)
        | 1 => w1 (ix4 o k a e)
        | 2 => w2 (ix4 o k a e)
        | 3 => w3 (ix4 o k a e), d, s, hsum⟩,
    ⟨fun b y xx k => hx _, fun b y xx => hp _, fun o a e k => hw0 _, fun o a e k => hw1 _, fun o a e k => hw2 _, fun o a e k => hw3 _, hd, hs⟩⟩

end Holds

section Results
open Cert.KernelIdeal (S4x96x224x224 S4x1x224x224 S1x96x4x2 S96x96x3x3 S96x384x1x1 S96)

variable (m : (ℓ : Loc Cert.KernelIdeal.nD Cert.KernelIdeal.τ Cert.KernelIdeal.sig) → Buf (Elt Ideal) ℓ) (c : Dev Cert.KernelIdeal.nD)
  (V0 : Valuation Cert.ReferenceIdeal.τ Cert.ReferenceIdeal.sig (Elt Ideal))

/-- The reference's arguments are the kernel's. -/
structure Same : Prop where
  a0 : (V0 (Proc.devRef .tc Cert.ReferenceIdeal.main_arg0) : Vec Ideal S4x96x224x224 .f32) = Cert.KernelIdeal.Conv.W0 m c (Proc.devRef .tc Cert.KernelIdeal.main_arg0)
  a1 : (V0 (Proc.devRef .tc Cert.ReferenceIdeal.main_arg1) : Vec Ideal S4x1x224x224 .f32) = Cert.KernelIdeal.Conv.W0 m c (Proc.devRef .tc Cert.KernelIdeal.main_arg1)
  a2 : (V0 (Proc.devRef .tc Cert.ReferenceIdeal.main_arg2) : Vec Ideal S1x96x4x2 .f32) = Cert.KernelIdeal.Conv.W0 m c (Proc.devRef .tc Cert.KernelIdeal.main_arg2)
  a3 : (V0 (Proc.devRef .tc Cert.ReferenceIdeal.main_arg3) : Vec Ideal S96x96x3x3 .f32) = Cert.KernelIdeal.Conv.W0 m c (Proc.devRef .tc Cert.KernelIdeal.main_arg3)
  a4 : (V0 (Proc.devRef .tc Cert.ReferenceIdeal.main_arg4) : Vec Ideal S96x96x3x3 .f32) = Cert.KernelIdeal.Conv.W0 m c (Proc.devRef .tc Cert.KernelIdeal.main_arg4)
  a5 : (V0 (Proc.devRef .tc Cert.ReferenceIdeal.main_arg5) : Vec Ideal S96x96x3x3 .f32) = Cert.KernelIdeal.Conv.W0 m c (Proc.devRef .tc Cert.KernelIdeal.main_arg5)
  a6 : (V0 (Proc.devRef .tc Cert.ReferenceIdeal.main_arg6) : Vec Ideal S96x96x3x3 .f32) = Cert.KernelIdeal.Conv.W0 m c (Proc.devRef .tc Cert.KernelIdeal.main_arg6)
  a7 : (V0 (Proc.devRef .tc Cert.ReferenceIdeal.main_arg7) : Vec Ideal S96x384x1x1 .f32) = Cert.KernelIdeal.Conv.W0 m c (Proc.devRef .tc Cert.KernelIdeal.main_arg7)
  a8 : (V0 (Proc.devRef .tc Cert.ReferenceIdeal.main_arg8) : Vec Ideal S96 .f32) = Cert.KernelIdeal.Conv.W0 m c (Proc.devRef .tc Cert.KernelIdeal.main_arg8)
  a9 : (V0 (Proc.devRef .tc Cert.ReferenceIdeal.main_arg9) : Vec Ideal S1x96x4x2 .f32) = Cert.KernelIdeal.Conv.W0 m c (Proc.devRef .tc Cert.KernelIdeal.main_arg9)

variable {m c V0} (S : Same m c V0)
include S

/-- The reference's mask is the softmax of the kernel's scores. -/
theorem ref_mask (k : Fin 96) (i : Fin 4) (e : Fin 2) :
    (Cert.ReferenceIdeal.Value.res_main_v17 V0 : Vec Ideal S1x96x4x2 .f32) (ix4 0 k i e) = soft (Cert.KernelIdeal.Conv.score m c k i) e := by
  refine (Cert.ReferenceIdeal.Conv.mask_apply V0 k i e).trans (congrArg (fun z => soft z e) (funext fun e => congrArg₂ noisy ?_ ?_))
  · exact congrFun S.a2 _
  · exact congrFun S.a9 _

/-- What the kernel's arguments hold the reference's hold. -/
theorem ref_holds {R : Reals} (H : Cert.KernelIdeal.Conv.Holds m c R) : Cert.ReferenceIdeal.Conv.Holds V0 R where
  x b y x k := (congrFun S.a0 _).trans (H.x b y x k)
  p b y x := (congrFun S.a1 _).trans (H.p b y x)
  w0 o a e k := (congrFun S.a3 _).trans (H.w0 o a e k)
  w1 o a e k := (congrFun S.a4 _).trans (H.w1 o a e k)
  w2 o a e k := (congrFun S.a5 _).trans (H.w2 o a e k)
  w3 o a e k := (congrFun S.a6 _).trans (H.w3 o a e k)
  d i k := (ref_mask S k i 0).trans (H.d i k)
  s i k := (ref_mask S k i 1).trans (H.s i k)

/-- The first results agree. -/
theorem first_result {R : Reals} (H : Cert.KernelIdeal.Conv.Holds m c R) :
    (Cert.ReferenceIdeal.Value.val9 V0 (Proc.devRef .tc Cert.ReferenceIdeal.main_v496) : Vec Ideal S4x96x224x224 .f32)
      = Cert.KernelIdeal.Conv.W13 m c (Proc.devRef .tc Cert.KernelIdeal.main_v84) := by
  have h7 := S.a7
  have h8 := S.a8
  refine funext fun (j : S4x96x224x224.Idx) => ?_
  rw [eq_ix4 j]
  refine (Cert.ReferenceIdeal.Conv.final_apply (j 0) (ref_holds S H) (j 1) (j 2) (j 3)).trans (Eq.trans ?_ (Cert.KernelIdeal.Conv.final_val H (j 0) (j 1) (j 2) (j 3)).symm)
  rw [h7, h8]

/-- The masks agree. -/
theorem second_result : (Cert.ReferenceIdeal.Value.res_main_v17 V0 : Vec Ideal S1x96x4x2 .f32)
      = Cert.KernelIdeal.Conv.W13 m c (Proc.devRef .tc Cert.KernelIdeal.main_v3) := by
  rw [Cert.KernelIdeal.Conv.W13_of m c Cert.KernelIdeal.main_v3 (by decide), Cert.KernelIdeal.Conv.W12_of m c Cert.KernelIdeal.main_v3 (by decide),
    Cert.KernelIdeal.Conv.W11_of m c Cert.KernelIdeal.main_v3 (by decide), Cert.KernelIdeal.Conv.W10_of m c Cert.KernelIdeal.main_v3 (by decide),
    Cert.KernelIdeal.Conv.W9_of m c Cert.KernelIdeal.main_v3 (by decide), Cert.KernelIdeal.Conv.W8_of m c Cert.KernelIdeal.main_v3 (by decide),
    Cert.KernelIdeal.Conv.W7_of m c Cert.KernelIdeal.main_v3 (by decide), Cert.KernelIdeal.Conv.W6_of m c Cert.KernelIdeal.main_v3 (by decide),
    Cert.KernelIdeal.Conv.W5_of m c Cert.KernelIdeal.main_v3 (by decide), Cert.KernelIdeal.Conv.W4_of m c Cert.KernelIdeal.main_v3 (by decide)]
  refine funext fun (j : S1x96x4x2.Idx) => ?_
  rw [eq_ix4 j, Subsingleton.elim (α := Fin 1) (j 0) 0]
  exact (ref_mask S (j 1) (j 2) (j 3)).trans ((Cert.KernelIdeal.Conv.h1_v3 (Cert.KernelIdeal.Conv.W2 m c) (j 1) (j 2) (j 3)).trans (Cert.KernelIdeal.Conv.mask_val m c (j 1) (j 2) (j 3))).symm

end Results

/-- From memories that agree on tame arguments the kernel and the reference end with equal results. -/
theorem algebra [hT : Cert.Pre_tame.Facts] : Cert.algebraic_KernelIdeal_ReferenceIdeal_pre_tame
    (hKernelIdeal := Cert.KernelIdeal.Gen.facts) (hReferenceIdeal := Cert.ReferenceIdeal.Gen.facts) (hPre_tame := hT) := by
  intro m g m' g' hp hs
  have S : ∀ c, Same m c (launchContents m' c) := fun c => by
    obtain ⟨a0, a1, a2, a3, a4, a5, a6, a7, a8, a9⟩ := hs c
    exact ⟨a0, a1, a2, a3, a4, a5, a6, a7, a8, a9⟩
  refine ⟨fun c => Cert.KernelIdeal.Conv.W13 m c (Proc.devRef .tc Cert.KernelIdeal.main_v84), fun c => Cert.KernelIdeal.Conv.W13 m c (Proc.devRef .tc Cert.KernelIdeal.main_v3), ?_, ?_⟩
  · exact (θ_run _ _ _).mono (fun r h c => ⟨Cert.KernelIdeal.Conv.final_at m (h.1 c).1 Cert.KernelIdeal.main_v84 (by decide),
      Cert.KernelIdeal.Conv.final_at m (h.1 c).1 Cert.KernelIdeal.main_v3 (by decide), (h.1 c).2⟩) (Cert.KernelIdeal.Conv.run_args m g)
  · refine (θ_run _ _ _).mono (fun r h c => ?_) (Cert.ReferenceIdeal.Value.run m' g')
    obtain ⟨R, H⟩ := kernel_holds m hp c
    obtain ⟨e0, e1, ha⟩ := h c
    exact ⟨e0.trans ((Cert.ReferenceIdeal.Value.val9_main_v496 (launchContents m' c)).symm.trans (first_result (S c) H)), e1.trans (second_result (S c)), ha⟩

end Cert.Conv
end
-- ==== Proof.lean ====
module

public import proofs.«01_k».proof.Defs
public import proofs.«01_k».proof.Proof.KernelFrame
public import proofs.«01_k».proof.Proof.RefFrame
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Conv.facts,
  fun m g _ => Cert.Kernel.Conv.frame Bits m g,
  fun m g _ => Cert.KernelIdeal.Conv.frame m g,
  fun m g _ => Cert.KernelIdeal.Conv.frame m g,
  fun m g _ => Cert.ReferenceIdeal.Conv.frame m g,
  fun m g _ => Cert.ReferenceIdeal.Conv.frame m g,
  trivial,
  Cert.Conv.algebra (hT := Cert.Conv.facts)⟩

end Cert.Proof

end
